-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![16, 128, 512]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = Layout.block ⟨3, ![2, 128, 512]⟩ ⟨3, ![16, 128, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v49) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x256 : Shape := ⟨2, ![512, 256]⟩
abbrev S16x128x32x64 : Shape := ⟨4, ![16, 128, 32, 64]⟩
abbrev S256x512 : Shape := ⟨2, ![256, 512]⟩
abbrev S_ : Shape := ⟨0, ![]⟩
abbrev S2x128x32x64 : Shape := ⟨4, ![2, 128, 32, 64]⟩
abbrev S2x128x2048 : Shape := ⟨3, ![2, 128, 2048]⟩
abbrev S8x512x256 : Shape := ⟨3, ![8, 512, 256]⟩
abbrev S8x256x512 : Shape := ⟨3, ![8, 256, 512]⟩
abbrev S256x256 : Shape := ⟨2, ![256, 256]⟩
abbrev S2x512x256 : Shape := ⟨3, ![2, 512, 256]⟩
abbrev S7x2 : Shape := ⟨2, ![7, 2]⟩
abbrev S1x512x256 : Shape := ⟨3, ![1, 512, 256]⟩
abbrev S1x256x512 : Shape := ⟨3, ![1, 256, 512]⟩
abbrev S1x1 : Shape := ⟨2, ![1, 1]⟩
abbrev S512x128 : Shape := ⟨2, ![512, 128]⟩
abbrev S128x64 : Shape := ⟨2, ![128, 64]⟩
abbrev S1x128x64 : Shape := ⟨3, ![1, 128, 64]⟩
abbrev S1x128x256 : Shape := ⟨3, ![1, 128, 256]⟩
abbrev S128x256 : Shape := ⟨2, ![128, 256]⟩
abbrev S512 : Shape := ⟨1, ![512]⟩
abbrev S512x1 : Shape := ⟨2, ![512, 1]⟩

abbrev nBuf : Space → Nat
  | .hbm => 36
  | .vmem => 10
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S16x128x32x64, .bf16⟩
  | .hbm, ⟨3, _⟩ => ⟨S16x128x32x64, .bf16⟩
  | .hbm, ⟨4, _⟩ => ⟨S256x512, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x128x32x64, .bf16⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S2x128x32x64, .bf16⟩
  | .hbm, ⟨33, _⟩ => ⟨S2x128x2048, .bf16⟩
  | .hbm, ⟨34, _⟩ => ⟨S2x128x2048, .bf16⟩
  | .hbm, ⟨35, _⟩ => ⟨S2x128x512, .f32⟩
  | .local _ .vmem, ⟨0, _⟩ => ⟨S2x128x512, .bf16⟩
  | .local _ .vmem, ⟨1, _⟩ => ⟨S512x256, .bf16⟩
  | .local _ .vmem, ⟨2, _⟩ => ⟨S2x128x2048, .bf16⟩
  | .local _ .vmem, ⟨3, _⟩ => ⟨S2x128x2048, .bf16⟩
  | .local _ .vmem, ⟨4, _⟩ => ⟨S256x512, .bf16⟩
  | .local _ .vmem, ⟨5, _⟩ => ⟨S2x128x512, .f32⟩
  | .local _ .vmem, ⟨6, _⟩ => ⟨S8x512x256, .bf16⟩
  | .local _ .vmem, ⟨7, _⟩ => ⟨S8x256x512, .bf16⟩
  | .local _ .vmem, ⟨8, _⟩ => ⟨S256x256, .bf16⟩
  | .local _ .vmem, ⟨9, _⟩ => ⟨S2x512x256, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 2 → Bool
  | ⟨0, _⟩ => false
  | ⟨1, _⟩ => true
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 2 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_c_7 : Ref sig .tc := ⟨.hbm, 22, rfl⟩
abbrev main_v10 : Ref sig .tc := ⟨.hbm, 23, rfl⟩
abbrev main_c_8 : Ref sig .tc := ⟨.hbm, 24, rfl⟩
abbrev main_v11 : Ref sig .tc := ⟨.hbm, 25, rfl⟩
abbrev main_c_9 : Ref sig .tc := ⟨.hbm, 26, rfl⟩
abbrev main_v12 : Ref sig .tc := ⟨.hbm, 27, rfl⟩
abbrev main_v13 : Ref sig .tc := ⟨.hbm, 28, rfl⟩
abbrev main_c_10 : Ref sig .tc := ⟨.hbm, 29, rfl⟩
abbrev main_c_11 : Ref sig .tc := ⟨.hbm, 30, rfl⟩
abbrev main_c_12 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_47 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_38 : BitVec 32 := 1#32
  let v42 : BitVec 32 := Scalar.addi v2 c1_i32_38
  let c8_i32_39 : BitVec 32 := 8#32
  let v43 : BitVec 32 := Scalar.remsi v42 c8_i32_39
  let c1_i32_46 : BitVec 32 := 1#32
  let v44 : BitVec 32 := Scalar.muli v43 c1_i32_46
  let v45 : BitVec 32 := Scalar.addi c0_i32_47 v44
  v45.toNat
def k0_dev9 (d0 : Dev nD) : Nat :=
  let c0_i32_59 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_38 : BitVec 32 := 1#32
  let v42 : BitVec 32 := Scalar.addi v2 c1_i32_38
  let c8_i32_39 : BitVec 32 := 8#32
  let v43 : BitVec 32 := Scalar.remsi v42 c8_i32_39
  let c1_i32_58 : BitVec 32 := 1#32
  let v54 : BitVec 32 := Scalar.muli v43 c1_i32_58
  let v55 : BitVec 32 := Scalar.addi c0_i32_59 v54
  v55.toNat
def k0_dev10 (d0 : Dev nD) : Nat :=
  let c0_i32_73 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_64 : BitVec 32 := 2#32
  let v64 : BitVec 32 := Scalar.addi v2 c2_i32_64
  let c8_i32_65 : BitVec 32 := 8#32
  let v65 : BitVec 32 := Scalar.remsi v64 c8_i32_65
  let c1_i32_72 : BitVec 32 := 1#32
  let v66 : BitVec 32 := Scalar.muli v65 c1_i32_72
  let v67 : BitVec 32 := Scalar.addi c0_i32_73 v66
  v67.toNat
def k0_dev11 (d0 : Dev nD) : Nat :=
  let c0_i32_85 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_64 : BitVec 32 := 2#32
  let v64 : BitVec 32 := Scalar.addi v2 c2_i32_64
  let c8_i32_65 : BitVec 32 := 8#32
  let v65 : BitVec 32 := Scalar.remsi v64 c8_i32_65
  let c1_i32_84 : BitVec 32 := 1#32
  let v76 : BitVec 32 := Scalar.muli v65 c1_i32_84
  let v77 : BitVec 32 := Scalar.addi c0_i32_85 v76
  v77.toNat
def k0_dev12 (d0 : Dev nD) : Nat :=
  let c0_i32_99 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_90 : BitVec 32 := 3#32
  let v86 : BitVec 32 := Scalar.addi v2 c3_i32_90
  let c8_i32_91 : BitVec 32 := 8#32
  let v87 : BitVec 32 := Scalar.remsi v86 c8_i32_91
  let c1_i32_98 : BitVec 32 := 1#32
  let v88 : BitVec 32 := Scalar.muli v87 c1_i32_98
  let v89 : BitVec 32 := Scalar.addi c0_i32_99 v88
  v89.toNat
def k0_dev13 (d0 : Dev nD) : Nat :=
  let c0_i32_111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_90 : BitVec 32 := 3#32
  let v86 : BitVec 32 := Scalar.addi v2 c3_i32_90
  let c8_i32_91 : BitVec 32 := 8#32
  let v87 : BitVec 32 := Scalar.remsi v86 c8_i32_91
  let c1_i32_110 : BitVec 32 := 1#32
  let v98 : BitVec 32 := Scalar.muli v87 c1_i32_110
  let v99 : BitVec 32 := Scalar.addi c0_i32_111 v98
  v99.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_116 : BitVec 32 := 4#32
  let v108 : BitVec 32 := Scalar.addi v2 c4_i32_116
  let c8_i32_117 : BitVec 32 := 8#32
  let v109 : BitVec 32 := Scalar.remsi v108 c8_i32_117
  let c1_i32_124 : BitVec 32 := 1#32
  let v110 : BitVec 32 := Scalar.muli v109 c1_i32_124
  let v111 : BitVec 32 := Scalar.addi c0_i32_125 v110
  v111.toNat
def k0_dev15 (d0 : Dev nD) : Nat :=
  let c0_i32_137 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_116 : BitVec 32 := 4#32
  let v108 : BitVec 32 := Scalar.addi v2 c4_i32_116
  let c8_i32_117 : BitVec 32 := 8#32
  let v109 : BitVec 32 := Scalar.remsi v108 c8_i32_117
  let c1_i32_136 : BitVec 32 := 1#32
  let v120 : BitVec 32 := Scalar.muli v109 c1_i32_136
  let v121 : BitVec 32 := Scalar.addi c0_i32_137 v120
  v121.toNat
def k0_dev16 (d0 : Dev nD) : Nat :=
  let c0_i32_151 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_142 : BitVec 32 := 5#32
  let v130 : BitVec 32 := Scalar.addi v2 c5_i32_142
  let c8_i32_143 : BitVec 32 := 8#32
  let v131 : BitVec 32 := Scalar.remsi v130 c8_i32_143
  let c1_i32_150 : BitVec 32 := 1#32
  let v132 : BitVec 32 := Scalar.muli v131 c1_i32_150
  let v133 : BitVec 32 := Scalar.addi c0_i32_151 v132
  v133.toNat
def k0_dev17 (d0 : Dev nD) : Nat :=
  let c0_i32_163 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_142 : BitVec 32 := 5#32
  let v130 : BitVec 32 := Scalar.addi v2 c5_i32_142
  let c8_i32_143 : BitVec 32 := 8#32
  let v131 : BitVec 32 := Scalar.remsi v130 c8_i32_143
  let c1_i32_162 : BitVec 32 := 1#32
  let v142 : BitVec 32 := Scalar.muli v131 c1_i32_162
  let v143 : BitVec 32 := Scalar.addi c0_i32_163 v142
  v143.toNat
def k0_dev18 (d0 : Dev nD) : Nat :=
  let c0_i32_177 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_168 : BitVec 32 := 6#32
  let v152 : BitVec 32 := Scalar.addi v2 c6_i32_168
  let c8_i32_169 : BitVec 32 := 8#32
  let v153 : BitVec 32 := Scalar.remsi v152 c8_i32_169
  let c1_i32_176 : BitVec 32 := 1#32
  let v154 : BitVec 32 := Scalar.muli v153 c1_i32_176
  let v155 : BitVec 32 := Scalar.addi c0_i32_177 v154
  v155.toNat
def k0_dev19 (d0 : Dev nD) : Nat :=
  let c0_i32_189 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_168 : BitVec 32 := 6#32
  let v152 : BitVec 32 := Scalar.addi v2 c6_i32_168
  let c8_i32_169 : BitVec 32 := 8#32
  let v153 : BitVec 32 := Scalar.remsi v152 c8_i32_169
  let c1_i32_188 : BitVec 32 := 1#32
  let v164 : BitVec 32 := Scalar.muli v153 c1_i32_188
  let v165 : BitVec 32 := Scalar.addi c0_i32_189 v164
  v165.toNat
def k0_dev20 (d0 : Dev nD) : Nat :=
  let c0_i32_203 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_194 : BitVec 32 := 7#32
  let v174 : BitVec 32 := Scalar.addi v2 c7_i32_194
  let c8_i32_195 : BitVec 32 := 8#32
  let v175 : BitVec 32 := Scalar.remsi v174 c8_i32_195
  let c1_i32_202 : BitVec 32 := 1#32
  let v176 : BitVec 32 := Scalar.muli v175 c1_i32_202
  let v177 : BitVec 32 := Scalar.addi c0_i32_203 v176
  v177.toNat
def k0_dev21 (d0 : Dev nD) : Nat :=
  let c0_i32_215 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_194 : BitVec 32 := 7#32
  let v174 : BitVec 32 := Scalar.addi v2 c7_i32_194
  let c8_i32_195 : BitVec 32 := 8#32
  let v175 : BitVec 32 := Scalar.remsi v174 c8_i32_195
  let c1_i32_214 : BitVec 32 := 1#32
  let v186 : BitVec 32 := Scalar.muli v175 c1_i32_214
  let v187 : BitVec 32 := Scalar.addi c0_i32_215 v186
  v187.toNat
def k0_off1 (d0 : Dev nD) (c0_i32_245 : BitVec 32) : Fin 3 → Nat :=
  let c0_258 : Index := 0#32
  let c0_259 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_244 : BitVec 32 := 8#32
  let v268 : BitVec 32 := Scalar.addi v2 c8_i32_244
  let v269 : BitVec 32 := Scalar.subi v268 c0_i32_245
  let c8_i32_246 : BitVec 32 := 8#32
  let v270 : BitVec 32 := Scalar.remsi v269 c8_i32_246
  let c256_i32 : BitVec 32 := 256#32
  let v291 : BitVec 32 := Scalar.muli v270 c256_i32
  let v292 : Index := Scalar.indexCast v291
  ![0, 0, v292.toNat]
def k0_off2 (d0 : Dev nD) (c0_i32_245 : BitVec 32) : Fin 3 → Nat :=
  let c1_291 : Index := 1#32
  let c0_292 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_244 : BitVec 32 := 8#32
  let v268 : BitVec 32 := Scalar.addi v2 c8_i32_244
  let v269 : BitVec 32 := Scalar.subi v268 c0_i32_245
  let c8_i32_246 : BitVec 32 := 8#32
  let v270 : BitVec 32 := Scalar.remsi v269 c8_i32_246
  let c256_i32_290 : BitVec 32 := 256#32
  let v352 : BitVec 32 := Scalar.muli v270 c256_i32_290
  let v353 : Index := Scalar.indexCast v352
  ![1, 0, v353.toNat]
def k0_dev22 (d0 : Dev nD) : Nat :=
  let c0_i32_1250_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1246_r0 : BitVec 32 := 1#32
  let v1566_r0 : BitVec 32 := Scalar.addi v2 c1_i32_1246_r0
  let c8_i32_1247_r0 : BitVec 32 := 8#32
  let v1567_r0 : BitVec 32 := Scalar.remsi v1566_r0 c8_i32_1247_r0
  let c1_i32_1249_r0 : BitVec 32 := 1#32
  let v1568_r0 : BitVec 32 := Scalar.muli v1567_r0 c1_i32_1249_r0
  let v1569_r0 : BitVec 32 := Scalar.addi c0_i32_1250_r0 v1568_r0
  v1569_r0.toNat
def k0_dev23 (d0 : Dev nD) : Nat :=
  let c0_i32_1255_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1251_r0 : BitVec 32 := 2#32
  let v1570_r0 : BitVec 32 := Scalar.addi v2 c2_i32_1251_r0
  let c8_i32_1252_r0 : BitVec 32 := 8#32
  let v1571_r0 : BitVec 32 := Scalar.remsi v1570_r0 c8_i32_1252_r0
  let c1_i32_1254_r0 : BitVec 32 := 1#32
  let v1572_r0 : BitVec 32 := Scalar.muli v1571_r0 c1_i32_1254_r0
  let v1573_r0 : BitVec 32 := Scalar.addi c0_i32_1255_r0 v1572_r0
  v1573_r0.toNat
def k0_dev24 (d0 : Dev nD) : Nat :=
  let c0_i32_1260_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1256_r0 : BitVec 32 := 3#32
  let v1574_r0 : BitVec 32 := Scalar.addi v2 c3_i32_1256_r0
  let c8_i32_1257_r0 : BitVec 32 := 8#32
  let v1575_r0 : BitVec 32 := Scalar.remsi v1574_r0 c8_i32_1257_r0
  let c1_i32_1259_r0 : BitVec 32 := 1#32
  let v1576_r0 : BitVec 32 := Scalar.muli v1575_r0 c1_i32_1259_r0
  let v1577_r0 : BitVec 32 := Scalar.addi c0_i32_1260_r0 v1576_r0
  v1577_r0.toNat
def k0_dev25 (d0 : Dev nD) : Nat :=
  let c0_i32_1265_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1261_r0 : BitVec 32 := 4#32
  let v1578_r0 : BitVec 32 := Scalar.addi v2 c4_i32_1261_r0
  let c8_i32_1262_r0 : BitVec 32 := 8#32
  let v1579_r0 : BitVec 32 := Scalar.remsi v1578_r0 c8_i32_1262_r0
  let c1_i32_1264_r0 : BitVec 32 := 1#32
  let v1580_r0 : BitVec 32 := Scalar.muli v1579_r0 c1_i32_1264_r0
  let v1581_r0 : BitVec 32 := Scalar.addi c0_i32_1265_r0 v1580_r0
  v1581_r0.toNat
def k0_dev26 (d0 : Dev nD) : Nat :=
  let c0_i32_1270_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1266_r0 : BitVec 32 := 5#32
  let v1582_r0 : BitVec 32 := Scalar.addi v2 c5_i32_1266_r0
  let c8_i32_1267_r0 : BitVec 32 := 8#32
  let v1583_r0 : BitVec 32 := Scalar.remsi v1582_r0 c8_i32_1267_r0
  let c1_i32_1269_r0 : BitVec 32 := 1#32
  let v1584_r0 : BitVec 32 := Scalar.muli v1583_r0 c1_i32_1269_r0
  let v1585_r0 : BitVec 32 := Scalar.addi c0_i32_1270_r0 v1584_r0
  v1585_r0.toNat
def k0_dev27 (d0 : Dev nD) : Nat :=
  let c0_i32_1275_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1271_r0 : BitVec 32 := 6#32
  let v1586_r0 : BitVec 32 := Scalar.addi v2 c6_i32_1271_r0
  let c8_i32_1272_r0 : BitVec 32 := 8#32
  let v1587_r0 : BitVec 32 := Scalar.remsi v1586_r0 c8_i32_1272_r0
  let c1_i32_1274_r0 : BitVec 32 := 1#32
  let v1588_r0 : BitVec 32 := Scalar.muli v1587_r0 c1_i32_1274_r0
  let v1589_r0 : BitVec 32 := Scalar.addi c0_i32_1275_r0 v1588_r0
  v1589_r0.toNat
def k0_dev28 (d0 : Dev nD) : Nat :=
  let c0_i32_1280_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1276_r0 : BitVec 32 := 7#32
  let v1590_r0 : BitVec 32 := Scalar.addi v2 c7_i32_1276_r0
  let c8_i32_1277_r0 : BitVec 32 := 8#32
  let v1591_r0 : BitVec 32 := Scalar.remsi v1590_r0 c8_i32_1277_r0
  let c1_i32_1279_r0 : BitVec 32 := 1#32
  let v1592_r0 : BitVec 32 := Scalar.muli v1591_r0 c1_i32_1279_r0
  let v1593_r0 : BitVec 32 := Scalar.addi c0_i32_1280_r0 v1592_r0
  v1593_r0.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S16x128x512 : Shape := ⟨3, ![16, 128, 512]⟩
abbrev S512x2048 : Shape := ⟨2, ![512, 2048]⟩
abbrev S16x128x32x64 : Shape := ⟨4, ![16, 128, 32, 64]⟩
abbrev S2048x512 : Shape := ⟨2, ![2048, 512]⟩
abbrev S16x128x2048 : Shape := ⟨3, ![16, 128, 2048]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S16x32x128x128 : Shape := ⟨4, ![16, 32, 128, 128]⟩
abbrev S1x1x128x128 : Shape := ⟨4, ![1, 1, 128, 128]⟩
abbrev S16x32x128 : Shape := ⟨3, ![16, 32, 128]⟩
abbrev S16x32x128x1 : Shape := ⟨4, ![16, 32, 128, 1]⟩
abbrev S1x1x128x1 : Shape := ⟨4, ![1, 1, 128, 1]⟩
abbrev S16x32x64x128 : Shape := ⟨4, ![16, 32, 64, 128]⟩

abbrev nBuf : Space → Nat
  | .hbm => 128
  | .vmem => 0
  | .smem => 0
  | _ => 0

abbrev bufTy : (tb : Table) → Fin (tcTables nBuf tb) → BufTy
  | .hbm, ⟨0, _⟩ => ⟨S16x128x512, .bf16⟩
  | .hbm, ⟨1, _⟩ => ⟨S512x2048, .bf16⟩
  | .hbm, ⟨2, _⟩ => ⟨S16x128x32x64, .bf16⟩
  | .hbm, ⟨3, _⟩ => ⟨S16x128x32x64, .bf16⟩
  | .hbm, ⟨4, _⟩ => ⟨S2048x512, .bf16⟩
  | .hbm, ⟨5, _⟩ => ⟨S16x128x2048, .f32⟩
  | .hbm, ⟨6, _⟩ => ⟨S16x128x2048, .bf16⟩
  | .hbm, ⟨7, _⟩ => ⟨S16x128x32x64, .bf16⟩
  | .hbm, ⟨8, _⟩ => ⟨S128, .i32⟩
  | .hbm, ⟨9, _⟩ => ⟨S_, .i32⟩
  | .hbm, ⟨10, _⟩ => ⟨S_, .i32⟩
  | .hbm, ⟨11, _⟩ => ⟨S128, .i32⟩
  | .hbm, ⟨12, _⟩ => ⟨S128, .i32⟩
  | .hbm, ⟨13, _⟩ => ⟨S128, .i32⟩
  | .hbm, ⟨14, _⟩ => ⟨S_, .i32⟩
  | .hbm, ⟨15, _⟩ => ⟨S128, .i32⟩
  | .hbm, ⟨16, _⟩ => ⟨S128, .i1⟩
  | .hbm, ⟨17, _⟩ => ⟨S128, .i32⟩
  | .hbm, ⟨18, _⟩ => ⟨S128, .i32⟩
  | .hbm, ⟨19, _⟩ => ⟨S_, .i32⟩
  | .hbm, ⟨20, _⟩ => ⟨S128, .i32⟩
  | .hbm, ⟨21, _⟩ => ⟨S128, .i1⟩
  | .hbm, ⟨22, _⟩ => ⟨S128, .i1⟩
  | .hbm, ⟨23, _⟩ => ⟨S_, .i32⟩
  | .hbm, ⟨24, _⟩ => ⟨S128, .i32⟩
  | .hbm, ⟨25, _⟩ => ⟨S128, .i32⟩
  | .hbm, ⟨26, _⟩ => ⟨S128, .i32⟩
  | .hbm, ⟨27, _⟩ => ⟨S128x1, .i32⟩
  | .hbm, ⟨28, _⟩ => ⟨S128, .i32⟩
  | .hbm, ⟨29, _⟩ => ⟨S_, .i32⟩
  | .hbm, ⟨30, _⟩ => ⟨S_, .i32⟩
  | .hbm, ⟨31, _⟩ => ⟨S128, .i32⟩
  | .hbm, ⟨32, _⟩ => ⟨S128, .i32⟩
  | .hbm, ⟨33, _⟩ => ⟨S128, .i32⟩
  | .hbm, ⟨34, _⟩ => ⟨S_, .i32⟩
  | .hbm, ⟨35, _⟩ => ⟨S128, .i32⟩
  | .hbm, ⟨36, _⟩ => ⟨S128, .i1⟩
  | .hbm, ⟨37, _⟩ => ⟨S128, .i32⟩
  | .hbm, ⟨38, _⟩ => ⟨S128, .i32⟩
  | .hbm, ⟨39, _⟩ => ⟨S_, .i32⟩
  | .hbm, ⟨40, _⟩ => ⟨S128, .i32⟩
  | .hbm, ⟨41, _⟩ => ⟨S128, .i1⟩
  | .hbm, ⟨42, _⟩ => ⟨S128, .i1⟩
  | .hbm, ⟨43, _⟩ => ⟨S_, .i32⟩
  | .hbm, ⟨44, _⟩ => ⟨S128, .i32⟩
  | .hbm, ⟨45, _⟩ => ⟨S128, .i32⟩
  | .hbm, ⟨46, _⟩ => ⟨S128, .i32⟩
  | .hbm, ⟨47, _⟩ => ⟨S1x128, .i32⟩
  | .hbm, ⟨48, _⟩ => ⟨S128x128, .i32⟩
  | .hbm, ⟨49, _⟩ => ⟨S128x128, .i32⟩
  | .hbm, ⟨50, _⟩ => ⟨S128x128, .i1⟩
  | .hbm, ⟨51, _⟩ => ⟨S_, .i32⟩
  | .hbm, ⟨52, _⟩ => ⟨S1x128, .i32⟩
  | .hbm, ⟨53, _⟩ => ⟨S1x128, .i1⟩
  | .hbm, ⟨54, _⟩ => ⟨S128x128, .i1⟩
  | .hbm, ⟨55, _⟩ => ⟨S128x128, .i1⟩
  | .hbm, ⟨56, _⟩ => ⟨S128x128, .i32⟩
  | .hbm, ⟨57, _⟩ => ⟨S128x128, .i32⟩
  | .hbm, ⟨58, _⟩ => ⟨S128x128, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .i1⟩
  | .hbm, ⟨63, _⟩ => ⟨S_, .i32⟩
  | .hbm, ⟨64, _⟩ => ⟨S_, .i32⟩
  | .hbm, ⟨65, _⟩ => ⟨S128x128, .i32⟩
  | .hbm, ⟨66, _⟩ => ⟨S128x128, .i32⟩
  | .hbm, ⟨67, _⟩ => ⟨S_, .i32⟩
  | .hbm, ⟨68, _⟩ => ⟨S128x128, .i32⟩
  | .hbm, ⟨69, _⟩ => ⟨S128x128, .i1⟩
  | .hbm, ⟨70, _⟩ => ⟨S_, .i32⟩
  | .hbm, ⟨71, _⟩ => ⟨S128x128, .i32⟩
  | .hbm, ⟨72, _⟩ => ⟨S128x128, .i1⟩
  | .hbm, ⟨73, _⟩ => ⟨S_, .i32⟩
  | .hbm, ⟨74, _⟩ => ⟨S_, .i1⟩
  | .hbm, ⟨75, _⟩ => ⟨S128x128, .i1⟩
  | .hbm, ⟨76, _⟩ => ⟨S128x128, .i1⟩
  | .hbm, ⟨77, _⟩ => ⟨S128x128, .i1⟩
  | .hbm, ⟨78, _⟩ => ⟨S128x128, .i32⟩
  | .hbm, ⟨79, _⟩ => ⟨S128x128, .i32⟩
  | .hbm, ⟨80, _⟩ => ⟨S128x128, .i32⟩
  | .hbm, ⟨81, _⟩ => ⟨S_, .i32⟩
  | .hbm, ⟨82, _⟩ => ⟨S128x128, .i32⟩
  | .hbm, ⟨83, _⟩ => ⟨S128x128, .i1⟩
  | .hbm, ⟨84, _⟩ => ⟨S128x128, .i1⟩
  | .hbm, ⟨85, _⟩ => ⟨S16x32x128x128, .f32⟩
  | .hbm, ⟨86, _⟩ => ⟨S16x32x128x128, .bf16⟩
  | .hbm, ⟨87, _⟩ => ⟨S16x32x128x128, .f32⟩
  | .hbm, ⟨88, _⟩ => ⟨S_, .f32⟩
  | .hbm, ⟨89, _⟩ => ⟨S16x32x128x128, .f32⟩
  | .hbm, ⟨90, _⟩ => ⟨S16x32x128x128, .f32⟩
  | .hbm, ⟨91, _⟩ => ⟨S1x1x128x128, .i1⟩
  | .hbm, ⟨92, _⟩ => ⟨S_, .f32⟩
  | .hbm, ⟨93, _⟩ => ⟨S_, .f32⟩
  | .hbm, ⟨94, _⟩ => ⟨S16x32x128x128, .i1⟩
  | .hbm, ⟨95, _⟩ => ⟨S16x32x128x128, .f32⟩
  | .hbm, ⟨96, _⟩ => ⟨S16x32x128x128, .f32⟩
  | .hbm, ⟨97, _⟩ => ⟨S_, .f32⟩
  | .hbm, ⟨98, _⟩ => ⟨S16x32x128, .f32⟩
  | .hbm, ⟨99, _⟩ => ⟨S16x32x128x1, .f32⟩
  | .hbm, ⟨100, _⟩ => ⟨S16x32x128x128, .f32⟩
  | .hbm, ⟨101, _⟩ => ⟨S16x32x128x128, .f32⟩
  | .hbm, ⟨102, _⟩ => ⟨S16x32x128x128, .f32⟩
  | .hbm, ⟨103, _⟩ => ⟨S_, .i1⟩
  | .hbm, ⟨104, _⟩ => ⟨S128, .i1⟩
  | .hbm, ⟨105, _⟩ => ⟨S1x1x128x1, .i1⟩
  | .hbm, ⟨106, _⟩ => ⟨S_, .f32⟩
  | .hbm, ⟨107, _⟩ => ⟨S16x32x128, .f32⟩
  | .hbm, ⟨108, _⟩ => ⟨S16x32x128x1, .f32⟩
  | .hbm, ⟨109, _⟩ => ⟨S_, .f32⟩
  | .hbm, ⟨110, _⟩ => ⟨S_, .f32⟩
  | .hbm, ⟨111, _⟩ => ⟨S16x32x128x1, .i1⟩
  | .hbm, ⟨112, _⟩ => ⟨S16x32x128x1, .f32⟩
  | .hbm, ⟨113, _⟩ => ⟨S16x32x128x1, .f32⟩
  | .hbm, ⟨114, _⟩ => ⟨S16x32x128x128, .f32⟩
  | .hbm, ⟨115, _⟩ => ⟨S16x32x128x128, .f32⟩
  | .hbm, ⟨116, _⟩ => ⟨S1x1x128x1, .i1⟩
  | .hbm, ⟨117, _⟩ => ⟨S_, .f32⟩
  | .hbm, ⟨118, _⟩ => ⟨S_, .f32⟩
  | .hbm, ⟨119, _⟩ => ⟨S16x32x128x128, .i1⟩
  | .hbm, ⟨120, _⟩ => ⟨S16x32x128x128, .f32⟩
  | .hbm, ⟨121, _⟩ => ⟨S16x32x128x128, .f32⟩
  | .hbm, ⟨122, _⟩ => ⟨S16x128x32x64, .f32⟩
  | .hbm, ⟨123, _⟩ => ⟨S16x32x64x128, .f32⟩
  | .hbm, ⟨124, _⟩ => ⟨S16x128x32x64, .f32⟩
  | .hbm, ⟨125, _⟩ => ⟨S16x128x2048, .f32⟩
  | .hbm, ⟨126, _⟩ => ⟨S2048x512, .f32⟩
  | .hbm, ⟨127, _⟩ => ⟨S16x128x512, .f32⟩
  | _, _ => ⟨S16x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_c_1 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_c_2 : Ref sig .tc := ⟨.hbm, 59, rfl⟩
abbrev main_call2_v0 : Ref sig .tc := ⟨.hbm, 60, rfl⟩
abbrev main_call2_c : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_c_1 : Ref sig .tc := ⟨.hbm, 67, rfl⟩
abbrev main_call2_v5 : Ref sig .tc := ⟨.hbm, 68, rfl⟩
abbrev main_call2_v6 : Ref sig .tc := ⟨.hbm, 69, rfl⟩
abbrev main_call2_c_2 : Ref sig .tc := ⟨.hbm, 70, rfl⟩
abbrev main_call2_v7 : Ref sig .tc := ⟨.hbm, 71, rfl⟩
abbrev main_call2_v8 : Ref sig .tc := ⟨.hbm, 72, rfl⟩
abbrev main_call2_c_3 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_v19 : Ref sig .tc := ⟨.hbm, 80, rfl⟩
abbrev main_c_3 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_cst : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_cst_4 : Ref sig .tc := ⟨.hbm, 92, rfl⟩
abbrev main_call3_v0 : Ref sig .tc := ⟨.hbm, 93, rfl⟩
abbrev main_call3_v1 : Ref sig .tc := ⟨.hbm, 94, rfl⟩
abbrev main_call3_v2 : Ref sig .tc := ⟨.hbm, 95, rfl⟩
abbrev main_v29 : Ref sig .tc := ⟨.hbm, 96, rfl⟩
abbrev main_cst_5 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_c_6 : Ref sig .tc := ⟨.hbm, 103, rfl⟩
abbrev main_v35 : Ref sig .tc := ⟨.hbm, 104, rfl⟩
abbrev main_v36 : Ref sig .tc := ⟨.hbm, 105, rfl⟩
abbrev main_cst_7 : Ref sig .tc := ⟨.hbm, 106, rfl⟩
abbrev main_v37 : Ref sig .tc := ⟨.hbm, 107, rfl⟩
abbrev main_v38 : Ref sig .tc := ⟨.hbm, 108, rfl⟩
abbrev main_cst_8 : Ref sig .tc := ⟨.hbm, 109, rfl⟩
abbrev main_call4_v0 : Ref sig .tc := ⟨.hbm, 110, rfl⟩
abbrev main_call4_v1 : Ref sig .tc := ⟨.hbm, 111, rfl⟩
abbrev main_call4_v2 : Ref sig .tc := ⟨.hbm, 112, rfl⟩
abbrev main_v39 : Ref sig .tc := ⟨.hbm, 113, rfl⟩
abbrev main_v40 : Ref sig .tc := ⟨.hbm, 114, rfl⟩
abbrev main_v41 : Ref sig .tc := ⟨.hbm, 115, rfl⟩
abbrev main_v42 : Ref sig .tc := ⟨.hbm, 116, rfl⟩
abbrev main_cst_9 : Ref sig .tc := ⟨.hbm, 117, rfl⟩
abbrev main_call5_v0 : Ref sig .tc := ⟨.hbm, 118, rfl⟩
abbrev main_call5_v1 : Ref sig .tc := ⟨.hbm, 119, rfl⟩
abbrev main_call5_v2 : Ref sig .tc := ⟨.hbm, 120, rfl⟩
abbrev main_v43 : Ref sig .tc := ⟨.hbm, 121, rfl⟩
abbrev main_v44 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩

abbrev nD : Nat := 1
abbrev τ : Topo := Topo.v7x

variable {F : FTy → Type} [FloatOps F]
-- ==== Proof.Kernel.Region.lean ====
/-
  The talking region as one segment of @main: what its windows stage, its body's obligation by the run, and the segment record. The frame claim does not
  read the result, so the result's window is forgotten: it ends at some contents.
-/
module

public import proofs.«01_k».proof.Proof.Kernel.Run
public import proofs.«01_k».proof.Proof.Kernel.Slots
public import proofs.«01_k».proof.Proof.Kernel.Open
public import proofs.«01_k».proof.Proof.Gen.Kernel.Regions
public import Idealize.ShloMosaic.Lib.Pipeline.RegionTalk

@[expose] public section

noncomputable section

namespace Cert.Kernel.Talk

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (c : Dev nD)

/-- The arrays as the windows stage them. -/
def xIn (c : Dev nD) : Vec F S2x128x512 .bf16 := ((cfg0.win 0).blk t0_0).view.read (Elt F) (V1 m c main_arg0)
def wqIn (c : Dev nD) : BufWq F := ((cfg0.win 1).blk t0_0).view.read (Elt F) (V1 m c main_arg1)
def kIn (c : Dev nD) : Vec F S2x128x2048 .bf16 := ((cfg0.win 2).blk t0_0).view.read (Elt F) (V1 m c main_v15)
def vIn (c : Dev nD) : Vec F S2x128x2048 .bf16 := ((cfg0.win 3).blk t0_0).view.read (Elt F) (V1 m c main_v16)
def woIn (c : Dev nD) : BufWo F := ((cfg0.win 4).blk t0_0).view.read (Elt F) (V1 m c main_arg4)
/-- The windows whose contents the body's obligation does not name: the result's. -/
def forgets : (p : Fin 1) → Fin (Pipeline.pin (pcfgs (F := F)) adm p).W → Bool
  | 0 => fun w => match (w : Fin 6) with
    | 5 => true
    | _ => false

/-- What every device's slot 0 holds. -/
def weights : Filled F := filled (wqIn m) (woIn m)

/-- The invariants a device's kernel opens, kept for its close. -/
theorem opened_keep (X : Filled F) (K : GSem nD τ sig → ℕ) (c : Dev nD) : opened X K c
    ⊢ (iprop((□ (cellInv ER (sched X) (K (barCell c)) (barCell c) ∗ cellInv ER (sched X) (K (secCell c)) (secCell c) ∗ seven (peerInv X K c))) ∗ opened X K c) : sProp 𝕄) := by
  unfold opened
  iintro ⟨⟨⟨#HB, #HS, #HR, #HL⟩, #HP, #HO⟩, H⟩
  isplitr
  · imodintro
    isplitr; · iexact HB
    isplitr; · iexact HS
    iexact HP
  isplitr
  · isplitr
    · isplitr; · iexact HB
      isplitr; · iexact HS
      isplitr; · iexact HR
      iexact HL
    isplitr; · iexact HP
    iexact HO
  iexact H

/-- The kernel's state beside its windows: at its one point's start, and at its end. -/
def before0 : sProp 𝕄 :=
  iprop((∃ K, opened (weights m) K c) ∗ Pipeline.scopedRest spec0 c ∗ ∃ r, prngReg c r)
def after0 : sProp 𝕄 :=
  iprop((semVal (barCell c) 0 ∗ semVal (secCell c) 0 ∗ seven fun _ i => four c (fun g => semVal g 0) i) ∗ Pipeline.scopedRest spec0 c ∗ ∃ r, prngReg c r)

/-- The region's proof data. -/
def dat0 (c : Dev nD) : Dat τ (Elt F) Unit ℕ UU ℕ cfg0 c where
  A w := match w with
    | 0 => V1 m c main_arg0
    | 1 => V1 m c main_arg1
    | 2 => V1 m c main_v15
    | 3 => V1 m c main_v16
    | 4 => V1 m c main_arg4
    | 5 => V1 m c main_v17
  after w _ := match w with
    | 0 => xIn m c
    | 1 => wqIn m c
    | 2 => kIn m c
    | 3 => vIn m c
    | 4 => woIn m c
    | 5 => ((cfg0.win 5).blk t0_0).view.read (Elt F) (V1 m c main_v17)
  Φ t := if t.val = 0 then before0 m c else after0 c
  q _ := fullShare
  owed t := if t.val = 0 then O₀ c else 0

def pdats : (p : Fin 1) → (c : Dev nD) → Dat τ (Elt F) Unit ℕ UU ℕ (Pipeline.pin (pcfgs (F := F)) adm p) c
  | 0 => dat0 m

/-! ## What the core owes at the two ends of the point -/

theorem owed_first : (pdats (F := F) m 0 c).owed 0 = O₀ c := by
  show (if ((0 : Fin (cfg0.N + 1)).val = 0) then O₀ c else 0) = O₀ c; exact if_pos rfl
theorem owed_start : (dat0 m c).owed t0_0.castSucc = O₀ c := by
  show (if (t0_0.castSucc : Fin (cfg0.N + 1)).val = 0 then O₀ c else 0) = O₀ c; exact if_pos rfl
theorem owed_end : (pdats (F := F) m 0 c).owed (Fin.last _) = 0 := by
  show (if (Fin.last cfg0.N).val = 0 then O₀ c else 0) = 0
  rw [Fin.val_last, if_neg (by rw [show cfg0.N = 1 from N_0]; decide)]
theorem owed_stop : (dat0 m c).owed t0_0.succ = 0 := by
  show (if (t0_0.succ : Fin (cfg0.N + 1)).val = 0 then O₀ c else 0) = 0; exact if_neg (Nat.succ_ne_zero _)

theorem owes_of_owesAt : ((dat0 m c).owesAt () t0_0.castSucc : sProp 𝕄) ⊢ iprop(∃ W, owes (c : Thread nD τ) (O₀ c) W) := by
  unfold Dat.owesAt Pipeline.owesWithin; rw [owed_start]
  iintro ⟨%W, -, HO⟩; iexists W; iexact HO
theorem owesAt_of_owes : (iprop(∃ W, owes (c : Thread nD τ) 0 W) : sProp 𝕄) ⊢ (dat0 m c).owesAt () t0_0.succ := by
  unfold Dat.owesAt Pipeline.owesWithin Dat.bound; rw [owed_stop]
  iintro ⟨%W, HO⟩; iexists W; isplitr; · ipureintro; exact fun _ _ => Or.inl trivial
  iexact HO

theorem phi_start : (dat0 m c).Φ t0_0.castSucc = before0 m c := by
  show (if (t0_0.castSucc : Fin (cfg0.N + 1)).val = 0 then before0 m c else after0 c) = _; exact if_pos rfl
theorem phi_stop : (dat0 m c).Φ t0_0.succ = after0 c := by
  show (if (t0_0.succ : Fin (cfg0.N + 1)).val = 0 then before0 m c else after0 c) = _; exact if_neg (Nat.succ_ne_zero _)

/-! ## What the windows' buffers hold as the body starts -/

theorem before_0 (d) : (dat0 m c).before 0 t0_0 d = xIn m c := (Dat.before_fetched _ 0 t0_0 (fetch0_0 _) d).trans rfl
theorem before_1 (d) : (dat0 m c).before 1 t0_0 d = wqIn m c := (Dat.before_fetched _ 1 t0_0 (fetch0_1 _) d).trans rfl
theorem before_2 (d) : (dat0 m c).before 2 t0_0 d = kIn m c := (Dat.before_fetched _ 2 t0_0 (fetch0_2 _) d).trans rfl
theorem before_3 (d) : (dat0 m c).before 3 t0_0 d = vIn m c := (Dat.before_fetched _ 3 t0_0 (fetch0_3 _) d).trans rfl
theorem before_4 (d) : (dat0 m c).before 4 t0_0 d = woIn m c := (Dat.before_fetched _ 4 t0_0 (fetch0_4 _) d).trans rfl

/-- The body run whole: from its start's state and the staged blocks, to its end's state and some block in the result's buffer. -/
theorem body_run (o : Vec F S2x128x512 .f32) (Kt : PUnit → sProp 𝕄) :
    iprop((before0 m c ∗ (∃ W, owes (c : Thread nD τ) (O₀ c) W)
      ∗ pt c (Memref.whole cc0_stg0_0) (xIn m c) ∗ pt c (Memref.whole cc0_stg1_0) (wqIn m c) ∗ pt c (Memref.whole cc0_stg2_0) (kIn m c) ∗ pt c (Memref.whole cc0_stg3_0) (vIn m c)
      ∗ pt c (Memref.whole cc0_stg4_0) (woIn m c) ∗ pt c (Memref.whole cc0_stg5_0) o)
      ∗ ((after0 c ∗ (∃ W, owes (c : Thread nD τ) 0 W)
      ∗ pt c (Memref.whole cc0_stg0_0) (xIn m c) ∗ pt c (Memref.whole cc0_stg1_0) (wqIn m c) ∗ pt c (Memref.whole cc0_stg2_0) (kIn m c) ∗ pt c (Memref.whole cc0_stg3_0) (vIn m c)
      ∗ pt c (Memref.whole cc0_stg4_0) (woIn m c) ∗ (∃ o', pt c (Memref.whole cc0_stg5_0) o')) -∗ Kt ⟨⟩))
    ⊢ wp frame (wpE (Ix := Unit) (Name := ℕ) (U := UU) (Lvl := ℕ) defs₀ Variants.none (c : Thread nD τ) none) Set.univ
      (cc0_body (F := F) (Memref.whole cc0_stg0_0) (hstage0_0 0) (Memref.whole cc0_stg1_0) (hstage0_1 0) (Memref.whole cc0_stg2_0) (hstage0_2 0)
        (Memref.whole cc0_stg3_0) (hstage0_3 0) (Memref.whole cc0_stg4_0) (hstage0_4 0) (Memref.whole cc0_stg5_0) (hstage0_5 0)
        (Memref.whole cc0_scratch0) (Memref.isWhole_whole _) (Memref.whole cc0_scratch1) (Memref.isWhole_whole _)
        (Memref.whole cc0_scratch2) (Memref.isWhole_whole _) (Memref.whole cc0_scratch3) (Memref.isWhole_whole _) cc0_scratch4 cc0_scratch5 cc0_scoped0) Kt := by
  unfold before0
  rw [scopedRest0_eq]
  iintro ⟨⟨⟨⟨%K, Hop⟩, ⟨S0, S1, ⟨%ct, S2⟩, ⟨%a, S3⟩⟩, Hp⟩, ⟨%W, HO⟩, B0, B1, B2, B3, B4, B5⟩, HK⟩
  ihave Hs := (slots_split c) $$ [S0 S1]
  · isplitl [S0] <;> iassumption
  icases Hs with ⟨Hsl, Hsr⟩
  ihave Hop := (opened_keep (weights m) K c) $$ Hop
  icases Hop with ⟨#Hinv, Hop⟩
  iapply wp_fupd
  iapply ((run c (xIn m c) (wqIn m) (kIn m c) (vIn m c) (woIn m) o).2 K ct a W _)
  isplitl [Hop Hsl HO B0 B1 B2 B3 B4 B5 S2 S3]
  · isplitl [Hop]; · iexact Hop
    isplitl [Hsl]; · iexact Hsl
    isplitl [HO]; · iexact HO
    isplitl [B0]; · iexact B0
    isplitl [B1]; · iexact B1
    isplitl [B2]; · iexact B2
    isplitl [B3]; · iexact B3
    isplitl [B4]; · iexact B4
    isplitl [B5]; · iexact B5
    isplitl [S2]; · iexact S2
    iexact S3
  iintro ⟨%g1, %h1, %g2, %h2, %g3, %h3, %g4, %h4, %g5, %h5, %g6, %h6, %g7, %h7, H⟩
  unfold ended
  icases H with ⟨⟨Hsl, Hat, H7, HO⟩, ⟨B0, B1, B2, B3, B4, B5⟩, S2, S3⟩
  imod (close_all (weights m) K c) $$ [Hat H7] with Hz
  · isplitr; · iexact Hinv
    isplitl [Hat] <;> iassumption
  ihave Hs := (slots_join c g1 h1) $$ [Hsl Hsr]
  · isplitl [Hsl] <;> iassumption
  icases Hs with ⟨S0, S1⟩
  imodintro
  iapply HK
  isplitl [Hz S0 S1 S2 S3 Hp]
  · unfold after0
    rw [scopedRest0_eq]
    isplitl [Hz]; · iexact Hz
    isplitr [Hp]
    · isplitl [S0]; · iexact S0
      isplitl [S1]; · iexact S1
      isplitl [S2]; · iexact S2
      iexact S3
    iexact Hp
  isplitl [HO]; · iexact HO
  isplitl [B0]; · iexact B0
  isplitl [B1]; · iexact B1
  isplitl [B2]; · iexact B2
  isplitl [B3]; · iexact B3
  isplitl [B4]; · iexact B4
  iexists _; iexact B5

/-- The pipeline's obligation of the body. -/
theorem body0 (c : Dev nD) : BodyObligation (dat0 (F := F) m c) defs₀ Variants.none () Set.univ (forgets (F := F) 0) := fun t => by
  obtain rfl := fin_N0 t
  rw [bigSep_W0, bigSep_W0, phi_start, phi_stop]
  simp only [forgets]
  iintro ⟨HΦ, HO, ⟨%d0, B0⟩, ⟨%d1, B1⟩, ⟨%d2, B2⟩, ⟨%d3, B3⟩, ⟨%d4, B4⟩, ⟨%d5, B5⟩⟩
  rw [before_0, before_1, before_2, before_3, before_4]
  ihave HO := (owes_of_owesAt m c) $$ HO
  iapply (body_run m c d5 _)
  isplitl [HΦ HO B0 B1 B2 B3 B4 B5]
  · isplitl [HΦ]; · iexact HΦ
    isplitl [HO]; · iexact HO
    isplitl [B0]; · iapply (Entails.of_eq (owns_whole (c : Thread nD τ) cc0_stg0_0 fullShare (xIn m c))) $$ B0
    isplitl [B1]; · iapply (Entails.of_eq (owns_whole (c : Thread nD τ) cc0_stg1_0 fullShare (wqIn m c))) $$ B1
    isplitl [B2]; · iapply (Entails.of_eq (owns_whole (c : Thread nD τ) cc0_stg2_0 fullShare (kIn m c))) $$ B2
    isplitl [B3]; · iapply (Entails.of_eq (owns_whole (c : Thread nD τ) cc0_stg3_0 fullShare (vIn m c))) $$ B3
    isplitl [B4]; · iapply (Entails.of_eq (owns_whole (c : Thread nD τ) cc0_stg4_0 fullShare (woIn m c))) $$ B4
    iapply (Entails.of_eq (owns_whole (c : Thread nD τ) cc0_stg5_0 fullShare _)) $$ B5
  iintro ⟨HΦ, HO, B0, B1, B2, B3, B4, ⟨%o, B5⟩⟩
  isplitl [HΦ]; · iexact HΦ
  isplitl [HO]; · iapply (owesAt_of_owes m c) $$ HO
  isplitl [B0]; · iapply (Entails.of_eq (owns_whole (c : Thread nD τ) cc0_stg0_0 fullShare (xIn m c)).symm) $$ B0
  isplitl [B1]; · iapply (Entails.of_eq (owns_whole (c : Thread nD τ) cc0_stg1_0 fullShare (wqIn m c)).symm) $$ B1
  isplitl [B2]; · iapply (Entails.of_eq (owns_whole (c : Thread nD τ) cc0_stg2_0 fullShare (kIn m c)).symm) $$ B2
  isplitl [B3]; · iapply (Entails.of_eq (owns_whole (c : Thread nD τ) cc0_stg3_0 fullShare (vIn m c)).symm) $$ B3
  isplitl [B4]; · iapply (Entails.of_eq (owns_whole (c : Thread nD τ) cc0_stg4_0 fullShare (woIn m c)).symm) $$ B4
  iexists o; iapply (Entails.of_eq (owns_whole (c : Thread nD τ) cc0_stg5_0 fullShare o).symm) $$ B5

/-! ## The segment -/

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem ownSems0_eq : (Pipeline.ownSems0 (Ix := Unit) (Val := Elt F) (Name := ℕ) (U := UU) (Lvl := ℕ) ownSem c : sProp 𝕄)
    = iprop(semVal (secCell c) 0 ∗ seven fun _ i => four c (fun g => semVal g 0) i) :=
  own_eq c (fun g => semVal g 0)

/-- What a device's kernel enters with, before and after its cells are opened, and what it leaves. -/
def Tk (c : Dev nD) : sProp 𝕄 := iprop(∃ K, ghost (weights m) K c)
def Xk (c : Dev nD) : sProp 𝕄 := iprop(∃ K, opened (weights m) K c)
def Yk (c : Dev nD) : sProp 𝕄 := semVal (barCell c) 0

theorem hopen (c : Dev nD) : iprop(Tk m c ∗ Pipeline.ownSems0 ownSem c ∗ levAts L lv) ⊢ (|={Set.univ}=> Xk m c : sProp 𝕄) := by
  rw [ownSems0_eq]
  unfold Tk Xk
  iintro ⟨⟨%K, Hg⟩, Hs, HL⟩
  imod (open_all (weights m) K c) $$ [Hg Hs HL] with H
  · isplitl [Hg]; · iexact Hg
    isplitl [Hs]; · iexact Hs
    iexact HL
  imodintro
  iexists K; iexact H

theorem phi_zero : (pdats (F := F) m 0 c).Φ 0 = before0 m c := by
  show (if (0 : Fin (cfg0.N + 1)).val = 0 then before0 m c else after0 c) = _; exact if_pos rfl
theorem phi_last : (pdats (F := F) m 0 c).Φ (Fin.last _) = after0 c := by
  show (if (Fin.last cfg0.N).val = 0 then before0 m c else after0 c) = _
  rw [Fin.val_last, if_neg (by rw [show cfg0.N = 1 from N_0]; decide)]

theorem hin (c : Dev nD) : iprop(Pipeline.scopedRest (Pipeline.pin (pcfgs (F := F)) adm 0).spec c ∗ (∃ r, prngReg c r)
    ∗ StableHlo.held (c.tc : Thread nD τ) ∅ (V1 m c) ∗ Xk m c) ⊢ (pdats m 0 c).Φ 0 := by
  rw [phi_zero]
  unfold before0 Xk
  iintro ⟨Hs, Hp, -, HK⟩
  isplitl [HK]; · iexact HK
  isplitl [Hs]; · iexact Hs
  iexact Hp

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ (∃ W' : Valuation τ sig (Elt F), ⌜True⌝ ∗ StableHlo.held (c.tc : Thread nD τ) ∅ W') ∗ Pipeline.ownSems0 ownSem c ∗ Yk c) := by
  rw [phi_last, ownSems0_eq]
  unfold after0 Yk
  iintro ⟨⟨HB, Hs⟩, Hr, Hp⟩
  isplitl [Hr]; · iexact Hr
  isplitl [Hp]; · iexact Hp
  isplitr
  · iexists (V1 m c)
    isplitr; · ipureintro; trivial
    iapply (Entails.of_eq (show (BI.emp : sProp 𝕄) = StableHlo.held (c.tc : Thread nD τ) ∅ (V1 m c) from BI.bigSep_empty.symm)); iempintro
  isplitl [Hs]; · iexact Hs
  iexact HB

theorem cutD (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then O₀ c else 0 := rfl
  rw [e] at h
  split at h
  · exact ⟨by rw [L, if_pos (above_O₀ c g i h).1]; exact Finset.mem_singleton_self _, (above_O₀ c g i h).2⟩
  · exact absurd h (Nat.lt_irrefl 0)

/-- The unscoped buffers no window stages. -/
def others : Finset (DevRef τ sig) := Pipeline.ucRefs τ sig \ Pipeline.arrRefs spec0

theorem arr_of_window : ∀ w : Fin 6, Proc.devRef .tc (Pipeline.arrRef spec0 w) = (Proc.devRef .tc main_v17 : DevRef τ sig) → w = 5 := by decide

theorem entry_eq (w : Fin 6) : (pdats (F := F) m 0 c).arrAt w 0 = V1 m c (Proc.devRef .tc (Pipeline.arrRef spec0 w)) := by
  fin_cases w <;> rfl
/-- The unscoped buffers as the region leaves them: the result's array at what it holds then. -/
def Vend (c : Dev nD) (r : Buf (Elt F) ((c : Thread nD τ).loc main_v17)) : Valuation τ sig (Elt F) := Function.update (V1 m c) (Proc.devRef .tc main_v17) r

theorem exit_eq (G : (w : Fin 6) → Buf (Elt F) (((cfg0.win w).arr.view.loc (c.tc : Thread nD τ))))
    (hG : ∀ w : Fin 6, w ≠ 5 → G w = (dat0 m c).arrAt w cfg0.N) (w : Fin 6) : G w = Vend m c (G 5) (Proc.devRef .tc (Pipeline.arrRef spec0 w)) := by
  by_cases h : w = 5
  · subst h; exact (Function.update_self (Proc.devRef .tc main_v17 : DevRef τ sig) (G 5) (V1 m c)).symm
  · have hw : (cfg0.win w).isOut = false := by revert w; decide
    have h1 := (dat0 m c).arrAt_in w hw cfg0.N
    have h2 : Vend m c (G 5) (Proc.devRef .tc (Pipeline.arrRef spec0 w)) = V1 m c (Proc.devRef .tc (Pipeline.arrRef spec0 w)) :=
      Function.update_of_ne (fun e => h (arr_of_window w e)) _ _
    rw [hG w h, h1, h2]
    exact entry_eq m c w
theorem rest_eq (r) (b : DevRef τ sig) (hb : b ∈ others) : Vend m c r b = V1 m c b := by
  have hne : b ≠ Proc.devRef .tc main_v17 := by
    rintro rfl
    exact absurd hb (by decide)
  exact Function.update_of_ne hne _ _

set_option backward.isDefEq.respectTransparency.types false in
/-- The kernel's segment. -/
def reg : Pipeline.RDat.RegionSeg (pcfgs (F := F)) adm (Pipeline.toRsF (pcfgs (F := F)) adm (pdats m) forgets) () defs₀ Variants.none L lv 0 :=
  Pipeline.RDat.RegionSeg.ofTalkF (pcfgs (F := F)) adm (pdats m) () defs₀ Variants.none L lv 0 forgets ownSem (by decide +kernel : Pipeline.OwnSemFacts spec0 ownSem)
    ∅ others (Finset.empty_subset _) kitP rfl (fun c => (body0 m c).loose)
    (fun _ => 0) O₀ (fun c => (owed_first m c).trans (zero_add _).symm) (owed_end m) (fun _ => rfl) (fun _ w => by unfold Dat.share; split <;> rfl)
    (V1 m) (fun _ _ => True)
    (Tk m) Yk (Xk m) Yk (hopen m) (hin m) (hout m)
    (fun c => by iintro H; imodintro; iexact H)
    (fun _ => 0)
    ⟨fun c w s => by rw [L_tc]; exact Finset.mem_singleton_self _, fun c w s => by fin_cases w <;> fin_cases s <;> exact Nat.le_refl 0, fun c t g i h => cutD m c t g i h⟩
    (fun _ => iprop(emp))
    (entry_eq m)

end Cert.Kernel.Talk
-- ==== Proof.Kernel.Main.lean ====
/-
  The whole program: its run from any memory with zero counters ends with the arguments as launched and every counter at zero.
-/
module

public import proofs.«01_k».proof.Proof.Kernel.Region
public import proofs.«01_k».proof.Proof.Kernel.Deal

@[expose] public section

noncomputable section

namespace Cert.Kernel.Talk

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat HostSeg)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-- What rides beside the unscoped buffers before the kernel, and after it. -/
def E : Fin 2 → Dev nD → sProp 𝕄
  | 0 => rest (weights m)
  | 1 => fun c => iprop(semVal (barCell c) 0 ∗ ∃ W, owes (c : Thread nD τ) 0 W)

theorem arrs_sub : Pipeline.arrRefs spec0 ⊆ Pipeline.ucRefs τ sig := by decide

theorem reg_pre : iprop(StableHlo.held (c : Thread nD τ) (Pipeline.ucRefs τ sig) (V1 m c) ∗ E m 0 c) ⊢ (reg m).pre c := by
  rw [StableHlo.held_sub_split (c : Thread nD τ) arrs_sub (V1 m c)]
  show iprop((StableHlo.held (c : Thread nD τ) (Pipeline.arrRefs spec0) (V1 m c) ∗ StableHlo.held (c : Thread nD τ) others (V1 m c)) ∗ rest (weights m) c)
    ⊢ (iprop(StableHlo.held (c : Thread nD τ) (Pipeline.arrRefs spec0) (V1 m c) ∗ (∃ r, prngReg c r) ∗ (StableHlo.held (c : Thread nD τ) others (V1 m c) ∗ emp)
      ∗ Tk m c ∗ ∃ W, owes (c : Thread nD τ) (0 + O₀ c) W) : sProp 𝕄)
  rw [zero_add]
  unfold rest Tk
  iintro ⟨⟨HA, HS⟩, HK, Hp, HO⟩
  isplitl [HA]; · iexact HA
  isplitl [Hp]; · iexact Hp
  isplitl [HS]
  · isplitl [HS]; · iexact HS
    iempintro
  isplitl [HK]; · iexact HK
  iexact HO

theorem keeps (w : Fin 6) (hw : w ≠ 5) : forgets (F := F) 0 w = false := by
  fin_cases w <;> first | rfl | exact absurd rfl hw

/-- The unscoped buffers at the program's end: as the host operations left them, the result's array at some contents. -/
def heldEnd (c : Dev nD) : sProp 𝕄 := iprop(∃ r, StableHlo.held (c : Thread nD τ) (Pipeline.ucRefs τ sig) (Vend m c r))

theorem reg_post : (reg m).post c ⊢ iprop((heldEnd m c ∗ semVal (barCell c) 0)
    ∗ ∃ W, owes (c : Thread nD τ) (0 : CellTallies nD τ sig Unit) W) := by
  show (iprop((∃ G : (w : Fin 6) → Buf (Elt F) (((cfg0.win w).arr.view.loc (c.tc : Thread nD τ))),
        ⌜∀ w : Fin 6, forgets (F := F) 0 w = false → G w = (dat0 m c).arrAt w cfg0.N⌝ ∗ (pdats m 0 c).arrays G) ∗ (∃ r, prngReg c r)
      ∗ ((∃ W' : Valuation τ sig (Elt F), ⌜True⌝ ∗ StableHlo.held (c.tc : Thread nD τ) ∅ W') ∗ StableHlo.held (c : Thread nD τ) (others \ ∅) (V1 m c) ∗ emp)
      ∗ Yk c ∗ ∃ W, owes (c : Thread nD τ) 0 W) : sProp 𝕄)
    ⊢ iprop((heldEnd m c ∗ semVal (barCell c) 0) ∗ ∃ W, owes (c : Thread nD τ) 0 W)
  rw [Finset.sdiff_empty]
  unfold Yk heldEnd
  iintro ⟨⟨%G, %hG, HA⟩, -, ⟨-, HS, -⟩, HB, HO⟩
  have hk : ∀ w : Fin 6, w ≠ 5 → G w = (dat0 m c).arrAt w cfg0.N := fun w hw => hG w (keeps w hw)
  have eA : ((pdats m 0 c).arrays G : sProp 𝕄) = StableHlo.held (c.tc : Thread nD τ) (Pipeline.arrRefs spec0) (Vend m c (G 5)) :=
    Pipeline.arrays_held (pcfgs (F := F)) adm (pdats m) 0 kitP c (fun w => by unfold Dat.share; split <;> rfl) G (Vend m c (G 5)) (exit_eq m c G hk)
  have eS : (StableHlo.held (c : Thread nD τ) others (V1 m c) : sProp 𝕄) = StableHlo.held (c : Thread nD τ) others (Vend m c (G 5)) := by
    unfold StableHlo.held; exact BI.bigSep_congr fun b hb => by rw [rest_eq m c (G 5) b hb]
  ihave HA := (Entails.of_eq eA) $$ HA
  ihave HS := (Entails.of_eq eS) $$ HS
  isplitr [HO]
  · isplitl [HA HS]
    · iexists (G 5)
      iapply (Entails.of_eq (StableHlo.held_sub_split (c : Thread nD τ) arrs_sub (Vend m c (G 5))).symm)
      isplitl [HA]; · iexact HA
      iexact HS
    · iexact HB
  iexact HO

/-- The protocol's element at launch, beside the pipeline's. -/
def u₀ : UU :=
  (initOf (Pipeline.cells (Pipeline.pin (pcfgs (F := F)) adm) cellOf_inj) (Pipeline.launchToks (Pipeline.pin (pcfgs (F := F)) adm) cellOf_inj), launchElt)

/-- The kernel's barrier is the one counter the launch leaves to the program. -/
theorem unscoped_only : ∀ sm : SemLoc sig, sm.isScoped .tc = false → sm = .reg barS := by decide

/-- An argument's buffer ends as launched. -/
theorem Vend_of (r' : Buf (Elt F) ((c : Thread nD τ).loc main_v17)) (r : Ref sig .tc) (h : r ≠ main_v17) (h' : r ∉ hostOps0_W) :
    Vend m c r' (Proc.devRef .tc r) = m ((c : Thread nD τ).loc r) :=
  (Function.update_of_ne (StableHlo.devRef_ne_of_ne h) _ _).trans (V1_of m c r h')

theorem read_end (s' : Phys nD τ sig (Elt F)) : iprop((heldEnd m c ∗ semVal (barCell c) 0) ∗ SI s')
    ⊢ (|={Set.univ}=> iprop(⌜(∃ r, ∀ b ∈ Pipeline.ucRefs τ sig, s'.mem.mem (c, b) = Vend m c r b) ∧ s'.mem.sem (barCell c) = 0⌝ ∗ SI s') : sProp 𝕄) := by
  unfold heldEnd StableHlo.held
  iintro ⟨⟨⟨%r, Hh⟩, Hb⟩, HSI⟩
  icombine HSI Hb gives %hb
  ihave Hr := (pointsTo_read_all (Pipeline.ucRefs τ sig) (fun b => ((c : Thread nD τ).1, b)) (Vend m c r) s') $$ [Hh HSI]
  · isplitl [Hh] <;> iassumption
  icases Hr with ⟨%h, HSI⟩
  imodintro
  isplitr
  · ipureintro
    exact ⟨⟨r, h⟩, by simpa using hb⟩
  · iexact HSI

/-- @main as the kit's segments: the host operations, and the kernel. -/
def segsF (c : Dev nD) : List (Pipeline.RDat.Seg (pcfgs (F := F)) adm (Pipeline.toRsF (pcfgs (F := F)) adm (pdats m) forgets) () defs₀ Variants.none L lv) :=
  [.host (seg0 m Variants.none L lv (E m) c), .region (reg m)]

set_option backward.isDefEq.respectTransparency.types false in
/-- THE RUN. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) := by
  refine Pipeline.RDat.θ_run_regions_kit_dev_sems (pcfgs (F := F)) adm (Pipeline.toRsF (pcfgs (F := F)) adm (pdats m) forgets) () cellOf_inj EP defs₀ Variants.none L lv m ρ main
    (segsF m)
    (fun c Q => by
      rewrite [main_chain c, Pipeline.RDat.Seg.run_eq_chain,
        show (segsF m c).map Pipeline.RDat.Seg.prog = [
          StableHlo.seq (hostOps0 c),
          Prog.lift (.customCall (Pipeline.entry 0) ()) ] from rfl]
      dsimp (config := { failIfUnchanged := false }) only
      exact .rfl)
    (fun c => by simp only [segsF, Pipeline.RDat.Seg.pipes_host, Pipeline.RDat.Seg.pipes_region, Pipeline.RDat.Seg.pipes_nil]; decide) (O₀ := O₀)
    (hL := fun g hg => if_neg hg) (G := atDev 0 (BI.own (ER launchElt))) (u₀ := u₀ (F := F))
    (hu₀ := by
      unfold u₀
      iintro Hu
      ihave H := (ownU_pair _ _) $$ Hu
      icases H with ⟨HP, HX⟩
      imodintro
      isplitl [HP]; · iexact HP
      rw [atDev_all]; iexact HX)
    (T₀ := fun c => iprop(StableHlo.held (c : Thread nD τ) (Pipeline.ucRefs τ sig) (V0 m c) ∗ E m 0 c))
    (Tₙ := fun c => iprop(heldEnd m c ∗ semVal (barCell c) 0))
    (hch := fun c => ⟨.rfl, reg_pre m c, reg_post m c⟩)
    (hinit := ?_)
    (QY := fun c s => (∃ r, ∀ b ∈ Pipeline.ucRefs τ sig, s.mem (c, b) = Vend m c r b) ∧ s.sem (barCell c) = 0)
    (hfin := read_end m)
    (hQ := fun s h hs => ⟨fun c => ?_, sem_eq_zero hs fun c sm hsm => by
      obtain rfl := unscoped_only sm hsm
      exact (h c).2⟩)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ atDev 0 (BI.own (ER launchElt)) c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c)
              ∗ atDev 0 (BI.own (ER launchElt)) c)) : sProp 𝕄) := by
      rw [← bigSep_sep']
      exact bigSep_mono fun c _ => by rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (deal (weights m) ρ) $$ [Hr Hla] with HE
    · isplitl [Hr]; · iexact Hr
      iexact Hla
    imodintro
    rw [bigSep_sep']
    isplitl [Hh]; · iexact Hh
    iexact HE
  · obtain ⟨⟨o, ho⟩, -⟩ := h c
    have hr (r : Ref sig .tc) (hu : Proc.devRef .tc r ∈ Pipeline.ucRefs τ sig) (hne : r ≠ main_v17) (hw : r ∉ hostOps0_W) :
        s.mem ((c.tc : Thread nD τ).loc r) = m ((c.tc : Thread nD τ).loc r) := (ho _ hu).trans (Vend_of m c o r hne hw)
    exact ⟨hr main_arg0 (by decide) (by decide) (by decide), hr main_arg1 (by decide) (by decide) (by decide), hr main_arg2 (by decide) (by decide) (by decide),
      hr main_arg3 (by decide) (by decide) (by decide), hr main_arg4 (by decide) (by decide) (by decide)⟩

end Cert.Kernel.Talk
-- ==== Proof.KernelIdeal.Protocol.lean ====
/-
  The devices' protocol. Every device sends its slice of each weight matrix to the seven others, into slot `o` of the device `o` places
  ahead. A device may be written to once it has entered the kernel, which it says on the others' barrier semaphores; each copy counts on a
  semaphore of its own at the receiver and one at the sender; a second barrier holds every device in the kernel until all have received.

  Per device: the barrier semaphore and the second barrier's each take seven signals, one from each other device; the fourteen departure
  and the fourteen arrival semaphores take one copy each. A signal on the barrier hands over the signaller's slot that the signalled device
  will write to. An arrival hands the slot back, written with the sender's slot 0.
-/
module

public import proofs.«01_k».proof.Proof.Gen.KernelIdeal.Launch
public import Idealize.ShloMosaic.Lib.Rounds
public import Idealize.ShloMosaic.Lib.ShareLeaves
public import Idealize.ShloMosaic.Lib.Pipeline.Kit
public import Idealize.ShloMosaic.Lib.Tactic

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The ghost state: the staging pipeline's copy and the protocol's. -/
abbrev UT : Type := URounds (GSem nD τ sig) ℕ
abbrev UU : Type := UR sig nD τ × UT

/-! ## Places -/

/-- The device `o` places ahead. -/
def fw (c : Dev nD) (o : ℕ) : Dev nD := ⟨(c.val + o) % 8, Nat.mod_lt _ (by decide)⟩

theorem fw_fw (c : Dev nD) (a b : ℕ) (h : (a + b) % 8 = 0) : fw (fw c a) b = c := by
  apply Fin.ext
  have := c.isLt
  show ((c.val + a) % 8 + b) % 8 = c.val
  unfold nD at *
  omega

theorem fw_back (c : Dev nD) (o : ℕ) (h : o < 9) : fw (fw c o) (8 - o) = c := fw_fw c _ _ (by omega)
theorem fw_back' (c : Dev nD) (o : ℕ) (h : o < 9) : fw (fw c (8 - o)) o = c := fw_fw c _ _ (by omega)

/-- Going `o` places ahead, as a permutation of the devices. -/
def turn (o : ℕ) (h : o < 9) : Dev nD ≃ Dev nD := ⟨fun c => fw c o, fun c => fw c (8 - o), fun c => fw_back c o h, fun c => fw_back' c o h⟩

theorem inbQ (o : ℕ) (h : o < 8) : ∀ a, (![o, 0, 0] : Fin 3 → Nat) a + S1x512x256.size a ≤ S8x512x256.size a := by
  intro a; fin_cases a
  · show o + 1 ≤ 8; omega
  · show 0 + 512 ≤ 512; omega
  · show 0 + 256 ≤ 256; omega
theorem inbO (o : ℕ) (h : o < 8) : ∀ a, (![o, 0, 0] : Fin 3 → Nat) a + S1x256x512.size a ≤ S8x256x512.size a := by
  intro a; fin_cases a
  · show o + 1 ≤ 8; omega
  · show 0 + 256 ≤ 256; omega
  · show 0 + 512 ≤ 512; omega

/-- Slot `o` of the query weights' buffer, as the kernel cuts it. -/
abbrev slotQ (o : ℕ) (h : o < 8) : Memref sig .tc .vmem S512x256 .bf16 :=
  ((Memref.whole cc0_scratch0).slice (Rect.unit (s := S8x512x256) ![o, 0, 0] S1x512x256.size (inbQ o h)) (fun _ => rfl)).squeeze S512x256 squeezes_S1x512x256_S512x256
/-- Slot `o` of the output weights' buffer. -/
abbrev slotO (o : ℕ) (h : o < 8) : Memref sig .tc .vmem S256x512 .bf16 :=
  ((Memref.whole cc0_scratch1).slice (Rect.unit (s := S8x256x512) ![o, 0, 0] S1x256x512.size (inbO o h)) (fun _ => rfl)).squeeze S256x512 squeezes_S1x256x512_S256x512

/-! ## Cells -/

abbrev barS : Sem sig := (SemArray.scalar (sig.barrier 0 rfl) : Sems sig S_).sem
abbrev secS : Sem sig := cc0_scoped0.sem
/-- The departure semaphore of the copy `i + 1` places ahead: `k = 0` of the query weights, `k = 1` of the output weights. -/
def sendS (i k : ℕ) : DmaSem sig := ⟨(6 + 2 * i + k) % 34, Nat.mod_lt _ (by decide)⟩
/-- The arrival semaphore of slot `i + 1`. -/
def recvS (i k : ℕ) : DmaSem sig := ⟨(20 + 2 * i + k) % 34, Nat.mod_lt _ (by decide)⟩

abbrev barCell (c : Dev nD) : GSem nD τ sig := ((c : Thread nD τ), .reg barS)
abbrev secCell (c : Dev nD) : GSem nD τ sig := ((c : Thread nD τ), .reg secS)
abbrev sendCell (c : Dev nD) (i k : ℕ) : GSem nD τ sig := ((c : Thread nD τ), .dma (sendS i k))
abbrev recvCell (c : Dev nD) (i k : ℕ) : GSem nD τ sig := ((c : Thread nD τ), .dma (recvS i k))

theorem inb_lt (i k : ℕ) (h : ∀ a, (![i, k] : Fin 2 → Nat) a + S1x1.size a ≤ S7x2.size a) : i < 7 ∧ k < 2 := by
  have h0 := h 0
  have h1 := h 1
  change i + 1 ≤ 7 at h0
  change k + 1 ≤ 2 at h1
  omega

theorem send_fin : ∀ (i : Fin 7) (k : Fin 2) (h : ∀ a, (![i.val, k.val] : Fin 2 → Nat) a + S1x1.size a ≤ S7x2.size a),
    ((cc0_scratch4.slice (Rect.unit (s := S7x2) ![i.val, k.val] S1x1.size h)).squeeze S_ squeezes_S1x1_S_).sem = sendS i.val k.val := by decide
@[sl_canon] theorem send_eq (i k : ℕ) (h : ∀ a, (![i, k] : Fin 2 → Nat) a + S1x1.size a ≤ S7x2.size a) :
    ((cc0_scratch4.slice (Rect.unit (s := S7x2) ![i, k] S1x1.size h)).squeeze S_ squeezes_S1x1_S_).sem = sendS i k :=
  send_fin ⟨i, (inb_lt i k h).1⟩ ⟨k, (inb_lt i k h).2⟩ h
theorem recv_fin : ∀ (i : Fin 7) (k : Fin 2) (h : ∀ a, (![i.val, k.val] : Fin 2 → Nat) a + S1x1.size a ≤ S7x2.size a),
    ((cc0_scratch5.slice (Rect.unit (s := S7x2) ![i.val, k.val] S1x1.size h)).squeeze S_ squeezes_S1x1_S_).sem = recvS i.val k.val := by decide
@[sl_canon] theorem recv_eq (i k : ℕ) (h : ∀ a, (![i, k] : Fin 2 → Nat) a + S1x1.size a ≤ S7x2.size a) :
    ((cc0_scratch5.slice (Rect.unit (s := S7x2) ![i, k] S1x1.size h)).squeeze S_ squeezes_S1x1_S_).sem = recvS i k :=
  recv_fin ⟨i, (inb_lt i k h).1⟩ ⟨k, (inb_lt i k h).2⟩ h

/-- What one copy of a slot counts. -/
def N : ℕ := (slotQ 0 (by decide)).view.dmaCredit
theorem N_Q (o : ℕ) (h : o < 8) : (slotQ o h).view.dmaCredit = N := rfl
theorem N_O (o : ℕ) (h : o < 8) : (slotO o h).view.dmaCredit = N := by rfl

theorem N_pos : 0 < N := View.dmaCredit_pos _ (by decide)

theorem sec_ne_bar : secS ≠ barS := by decide
theorem sendS_val (i k : ℕ) (hi : i < 7) (hk : k < 2) : (sendS i k).val = 6 + 2 * i + k := Nat.mod_eq_of_lt (by omega)
theorem recvS_val (i k : ℕ) (hi : i < 7) (hk : k < 2) : (recvS i k).val = 20 + 2 * i + k := Nat.mod_eq_of_lt (by omega)
theorem send_inj (i k i' k' : ℕ) (hi : i < 7) (hk : k < 2) (hi' : i' < 7) (hk' : k' < 2) (h : sendS i k = sendS i' k') : i = i' ∧ k = k' := by
  have := congrArg Fin.val h
  simp only [sendS] at this
  omega
theorem recv_inj (i k i' k' : ℕ) (hi : i < 7) (hk : k < 2) (hi' : i' < 7) (hk' : k' < 2) (h : recvS i k = recvS i' k') : i = i' ∧ k = k' := by
  have := congrArg Fin.val h
  simp only [recvS] at this
  omega

/-! ## What is held of the slots -/

local notation "𝕄" => MT nD τ sig Unit (Elt F) ℕ UU ℕ

/-- The pipeline library's copy of the round state, and the protocol's. -/
abbrev EP : Emb (UR sig nD τ) (MT nD τ sig Unit (Elt F) ℕ UU ℕ) := embL
abbrev ER : Emb UT (MT nD τ sig Unit (Elt F) ℕ UU ℕ) := embR

/-- The contents of a buffer of slots: one type for every device. -/
abbrev BufQ (F : FTy → Type) : Type := Buf (Elt F) ((slotQ 0 (by decide)).view.loc ((0 : Dev nD) : Thread nD τ))
abbrev BufO (F : FTy → Type) : Type := Buf (Elt F) ((slotO 0 (by decide)).view.loc ((0 : Dev nD) : Thread nD τ))

/-- Device `c`'s slot `o` of the query weights, over the slot alone, at contents `f` of the whole buffer. -/
abbrev ptQ (c : Dev nD) (o : ℕ) (h : o < 8) (q : PosShare TreeShare) (f : BufQ F) : sProp 𝕄 :=
  (slotQ o h).view.loc (c : Thread nD τ) ↦[(slotQ o h).view.set]{q} f
abbrev ptO (c : Dev nD) (o : ℕ) (h : o < 8) (q : PosShare TreeShare) (f : BufO F) : sProp 𝕄 :=
  (slotO o h).view.loc (c : Thread nD τ) ↦[(slotO o h).view.set]{q} f

/-- The device's two slots `o`, at contents not chosen. -/
@[irreducible] def slotAny (c : Dev nD) (o : ℕ) (h : o < 8) : sProp 𝕄 := iprop((∃ f, ptQ c o h fullShare f) ∗ (∃ f, ptO c o h fullShare f))

theorem slotAny_eq (c : Dev nD) (o : ℕ) (h : o < 8) :
    (slotAny c o h : sProp 𝕄) = iprop((∃ f, ptQ c o h fullShare f) ∗ (∃ f, ptO c o h fullShare f)) := by unfold slotAny; rfl

set_option synthInstance.maxHeartbeats 400000 in
instance slotAny_storable (c : Dev nD) (o : ℕ) (h : o < 8) : BI.Storable (upEmb : UEmb _ 𝕄) (slotAny (F := F) c o h) := by
  rw [slotAny_eq]; infer_instance

/-- The share of slot 0 lent to the copy `o` places ahead; share 0 stays with the device. -/
def sh (o : ℕ) : PosShare TreeShare := ShareLeaves.leaf 3 fullShare (Fin.ofNat (2 ^ 3) o)

/-- The contents of every device's buffers when its slot 0 is filled: the parameters of the schedule. -/
structure Filled (F : FTy → Type) where
  q : (c : Dev nD) → BufQ F
  o : (c : Dev nD) → BufO F

variable (X : Filled F)

/-! ## The schedule -/

/-- With the signal of duty `d` at `t`'s barrier: the signaller (the device `8 - d` ahead of `t`) gives its two slots `8 - d`, and says that
    it has entered the kernel. -/
def barPay (t : Dev nD) (d : ℕ) : sProp 𝕄 :=
  if h : 8 - d < 8 then
    iprop(slotAny (fw t (8 - d)) (8 - d) h
      ∗ reached ER (recvCell (fw t (8 - d)) (8 - d - 1) 0) 0 ∗ reached ER (recvCell (fw t (8 - d)) (8 - d - 1) 1) 0 ∗ reached ER (secCell (fw t (8 - d))) 0)
  else iprop(emp)
/-- A departure gives back the share lent. -/
def sendPay (c : Dev nD) (i k : ℕ) : sProp 𝕄 :=
  if k = 0 then ptQ c 0 (by decide) (sh (i + 1)) (X.q c) else ptO c 0 (by decide) (sh (i + 1)) (X.o c)
/-- An arrival gives the slot, written with the slot 0 of the device `i + 1` places behind. -/
def recvPay (c : Dev nD) (i k : ℕ) : sProp 𝕄 :=
  if h : i + 1 < 8 then
    if k = 0 then
      iprop(∃ fd : BufQ F, ptQ c (i + 1) h fullShare
        ((slotQ (i + 1) h).view.write (Elt F) fd ((slotQ 0 (by decide)).view.read (Elt F) (X.q (fw c (8 - (i + 1))))) Finset.univ))
    else
      iprop(∃ fd : BufO F, ptO c (i + 1) h fullShare
        ((slotO (i + 1) h).view.write (Elt F) fd ((slotO 0 (by decide)).view.read (Elt F) (X.o (fw c (8 - (i + 1))))) Finset.univ))
  else iprop(emp)

/-- Round 0 only. The two barriers have a duty per other device, every copy's semaphore one. -/
def sched : Rounds.Schedule (GSem nD τ sig) ℕ 𝕄 where
  duties g r := if r = 0 ∧ g.1.2 = .tc then (match g.2 with | .reg _ => {1, 2, 3, 4, 5, 6, 7} | .dma s => if 6 ≤ s.val then {0} else ∅) else ∅
  unitless _ := False
  amount g _ _ := match g.2 with | .reg _ => 1 | .dma _ => N
  payload g _ d := match g.2 with
    | .reg s => if s = barS then barPay g.1.1 d else iprop(emp)
    | .dma s => if s.val < 20 then sendPay X g.1.1 ((s.val - 6) / 2) (s.val % 2) else recvPay X g.1.1 ((s.val - 20) / 2) (s.val % 2)
  amount_pos g _ _ _ := by
    rcases g with ⟨t, s | s⟩
    · exact Nat.one_pos
    · exact N_pos

set_option synthInstance.maxHeartbeats 400000 in
instance sched_storable (g : GSem nD τ sig) (r : ℕ) (d : ℕ) : BI.Storable (upEmb : UEmb _ 𝕄) ((sched X).payload g r d) := by
  rcases g with ⟨t, s | s⟩
  · show BI.Storable upEmb (if s = barS then barPay t.1 d else iprop(emp))
    unfold barPay
    (repeat' split) <;> infer_instance
  · show BI.Storable upEmb (if s.val < 20 then sendPay X t.1 ((s.val - 6) / 2) (s.val % 2) else recvPay X t.1 ((s.val - 20) / 2) (s.val % 2))
    unfold sendPay recvPay
    (repeat' split) <;> infer_instance

section Tables

variable (c : Dev nD) (i k : ℕ)

theorem duties_bar : (sched X).duties (barCell c) 0 = {1, 2, 3, 4, 5, 6, 7} := by dsimp only [sched]; exact if_pos ⟨rfl, rfl⟩
theorem duties_sec : (sched X).duties (secCell c) 0 = {1, 2, 3, 4, 5, 6, 7} := by dsimp only [sched]; exact if_pos ⟨rfl, rfl⟩
theorem duties_send (hi : i < 7) (hk : k < 2) : (sched X).duties (sendCell c i k) 0 = {0} := by
  dsimp only [sched]; rw [if_pos ⟨rfl, rfl⟩, if_pos]
  show 6 ≤ (6 + 2 * i + k) % 34; omega
theorem duties_recv (hi : i < 7) (hk : k < 2) : (sched X).duties (recvCell c i k) 0 = {0} := by
  dsimp only [sched]; rw [if_pos ⟨rfl, rfl⟩, if_pos]
  show 6 ≤ (20 + 2 * i + k) % 34; omega
theorem duties_later (g : GSem nD τ sig) (r : ℕ) (hr : 1 ≤ r) : (sched X).duties g r = ∅ := by
  dsimp only [sched]; exact if_neg fun h => by omega

theorem amount_bar (d : ℕ) : (sched X).amount (barCell c) 0 d = 1 := rfl
theorem amount_sec (d : ℕ) : (sched X).amount (secCell c) 0 d = 1 := rfl
theorem amount_send (d : ℕ) : (sched X).amount (sendCell c i k) 0 d = N := rfl
theorem amount_recv (d : ℕ) : (sched X).amount (recvCell c i k) 0 d = N := rfl

theorem expect_bar : (sched X).expect (barCell c) 0 = 7 := by
  unfold Schedule.expect Schedule.amountOf; rw [duties_bar]; rfl
theorem expect_sec : (sched X).expect (secCell c) 0 = 7 := by
  unfold Schedule.expect Schedule.amountOf; rw [duties_sec]; rfl
theorem expect_send (hi : i < 7) (hk : k < 2) : (sched X).expect (sendCell c i k) 0 = N := by
  unfold Schedule.expect Schedule.amountOf; rw [duties_send X c i k hi hk, Finset.sum_singleton, amount_send]
theorem expect_recv (hi : i < 7) (hk : k < 2) : (sched X).expect (recvCell c i k) 0 = N := by
  unfold Schedule.expect Schedule.amountOf; rw [duties_recv X c i k hi hk, Finset.sum_singleton, amount_recv]

theorem payload_bar (d : ℕ) (h : 8 - d < 8) : (sched X).payload (barCell c) 0 d
    = iprop(slotAny (fw c (8 - d)) (8 - d) h
      ∗ reached ER (recvCell (fw c (8 - d)) (8 - d - 1) 0) 0 ∗ reached ER (recvCell (fw c (8 - d)) (8 - d - 1) 1) 0 ∗ reached ER (secCell (fw c (8 - d))) 0) := by
  dsimp only [sched]; rw [if_pos rfl]; exact dif_pos h
theorem payload_sec (d : ℕ) : (sched X).payload (secCell c) 0 d = iprop(emp) := by
  dsimp only [sched]; exact if_neg sec_ne_bar
theorem payload_send (d : ℕ) (hi : i < 7) (hk : k < 2) : (sched X).payload (sendCell c i k) 0 d = sendPay X c i k := by
  have e := sendS_val i k hi hk
  dsimp only [sched]
  rw [if_pos (by omega), show ((sendS i k).val - 6) / 2 = i by omega, show (sendS i k).val % 2 = k by omega]
theorem payload_recv (d : ℕ) (hi : i < 7) (hk : k < 2) : (sched X).payload (recvCell c i k) 0 d = recvPay X c i k := by
  have e := recvS_val i k hi hk
  dsimp only [sched]
  rw [if_neg (by omega), show ((recvS i k).val - 20) / 2 = i by omega, show (recvS i k).val % 2 = k by omega]
theorem payload_send0 (d : ℕ) (hi : i < 7) : (sched X).payload (sendCell c i 0) 0 d = ptQ c 0 (by decide) (sh (i + 1)) (X.q c) :=
  (payload_send X c i 0 d hi (by decide)).trans (if_pos rfl)
theorem payload_send1 (d : ℕ) (hi : i < 7) : (sched X).payload (sendCell c i 1) 0 d = ptO c 0 (by decide) (sh (i + 1)) (X.o c) :=
  (payload_send X c i 1 d hi (by decide)).trans (if_neg (by decide))
theorem payload_recv0 (d : ℕ) (hi : i + 1 < 8) : (sched X).payload (recvCell c i 0) 0 d
    = iprop(∃ fd : BufQ F, ptQ c (i + 1) hi fullShare
        ((slotQ (i + 1) hi).view.write (Elt F) fd ((slotQ 0 (by decide)).view.read (Elt F) (X.q (fw c (8 - (i + 1))))) Finset.univ)) := by
  rw [payload_recv X c i 0 d (by omega) (by decide)]; unfold recvPay; rw [dif_pos hi, if_pos rfl]
theorem payload_recv1 (d : ℕ) (hi : i + 1 < 8) : (sched X).payload (recvCell c i 1) 0 d
    = iprop(∃ fd : BufO F, ptO c (i + 1) hi fullShare
        ((slotO (i + 1) hi).view.write (Elt F) fd ((slotO 0 (by decide)).view.read (Elt F) (X.o (fw c (8 - (i + 1))))) Finset.univ)) := by
  rw [payload_recv X c i 1 d (by omega) (by decide)]; unfold recvPay; rw [dif_pos hi, if_neg (by decide)]

end Tables

/-! ## What each device owes at launch; the levels -/

/-- A device pays one unit to each other device's barrier, a copy's count to two arrival semaphores of each, and one unit to each one's second
    barrier. -/
def oBar (c : Dev nD) : CellTallies nD τ sig Unit := ∑ i : Fin 7, tallyAt (barCell (fw c (i.val + 1))) () 1
def oRecv (c : Dev nD) : CellTallies nD τ sig Unit :=
  ∑ i : Fin 7, (tallyAt (recvCell (fw c (i.val + 1)) i.val 0) () N + tallyAt (recvCell (fw c (i.val + 1)) i.val 1) () N)
def oSec (c : Dev nD) : CellTallies nD τ sig Unit := ∑ i : Fin 7, tallyAt (secCell (fw c (i.val + 1))) () 1
def O₀ (c : Dev nD) : CellTallies nD τ sig Unit := oSec c + oRecv c + oBar c

def L (g : GSem nD τ sig) : Finset Unit := if g.1.2 = .tc then {()} else ∅
/-- A device waits first on its barrier, then on arrivals, then on departures, then on the second barrier: the arrivals' cells stand above the
    barrier's, the second barrier's above all. -/
def lv (g : GSem nD τ sig) (_ : Unit) : ℕ := match g.2 with
  | .reg s => if s = barS then 1 else 3
  | .dma s => if s.val < 20 then 0 else 2

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by dsimp only [lv]; exact if_pos rfl
theorem lv_sec (c : Dev nD) : lv (secCell c) () = 3 := by dsimp only [lv]; exact if_neg sec_ne_bar
theorem lv_send (c : Dev nD) (i k : ℕ) (hi : i < 7) (hk : k < 2) : lv (sendCell c i k) () = 0 := by
  have e := sendS_val i k hi hk
  exact if_pos (show (sendS i k).val < 20 by omega)
theorem lv_recv (c : Dev nD) (i k : ℕ) (hi : i < 7) (hk : k < 2) : lv (recvCell c i k) () = 2 := by
  have e := recvS_val i k hi hk
  exact if_neg (show ¬ (recvS i k).val < 20 by omega)

/-- Everything owed in `O` stands on a TensorCore's cell at level `n` or above. -/
def Above (n : ℕ) (O : CellTallies nD τ sig Unit) : Prop := ∀ g u, 0 < O g u → g.1.2 = .tc ∧ n ≤ lv g u

theorem Above.zero (n : ℕ) : Above n 0 := fun g u h => absurd h (Nat.lt_irrefl 0)
theorem Above.add {n : ℕ} {O O' : CellTallies nD τ sig Unit} (h : Above n O) (h' : Above n O') : Above n (O + O') := fun g u hp => by
  rw [Pi.add_apply, Finsupp.add_apply] at hp
  rcases Nat.add_pos_iff_pos_or_pos.mp hp with hp | hp
  · exact h g u hp
  · exact h' g u hp
theorem Above.at {n : ℕ} (c : Dev nD) (sm : SemLoc sig) (a : ℕ) (h : n ≤ lv ((c : Thread nD τ), sm) ()) :
    Above n (tallyAt ((c : Thread nD τ), sm) () a) := fun g u hp => by
  rw [tallyAt_apply] at hp
  split at hp
  · next hg => obtain ⟨rfl, -⟩ := hg; exact ⟨rfl, h⟩
  · exact absurd hp (Nat.lt_irrefl 0)
theorem Above.sum {ι : Type} (s : Finset ι) {n : ℕ} (O : ι → CellTallies nD τ sig Unit) (h : ∀ i ∈ s, Above n (O i)) : Above n (∑ i ∈ s, O i) := by
  classical
  induction s using Finset.induction_on with
  | empty => exact Above.zero n
  | insert a s ha ih =>
    rw [Finset.sum_insert ha]
    exact (h a (Finset.mem_insert_self a s)).add (ih fun i hi => h i (Finset.mem_insert_of_mem hi))
theorem Above.mono {n n' : ℕ} (hn : n' ≤ n) {O : CellTallies nD τ sig Unit} (h : Above n O) : Above n' O :=
  fun g u hp => ⟨(h g u hp).1, hn.trans (h g u hp).2⟩

theorem above_sec (c : Dev nD) : Above 3 (oSec c) := Above.sum _ _ fun i _ => Above.at _ _ _ (lv_sec _).ge
theorem above_recv (c : Dev nD) : Above 2 (oRecv c) := Above.sum _ _ fun i _ =>
  (Above.at _ _ _ (lv_recv _ _ _ i.isLt (by decide)).ge).add (Above.at _ _ _ (lv_recv _ _ _ i.isLt (by decide)).ge)
theorem above_bar (c : Dev nD) : Above 1 (oBar c) := Above.sum _ _ fun i _ => Above.at _ _ _ (lv_bar _).ge
theorem above_O₀ (c : Dev nD) : Above 1 (O₀ c) := (((above_sec c).mono (by decide)).add ((above_recv c).mono (by decide))).add (above_bar c)

/-- A device may wait on a cell of its own below everything it owes. -/
theorem mayWait (c : Dev nD) (sm : SemLoc sig) {n : ℕ} {O : CellTallies nD τ sig Unit} (h : Above n O) (hl : lv ((c : Thread nD τ), sm) () < n) :
    (levAts L lv : sProp 𝕄) ⊢ MayWait (c : Thread nD τ) sm () O :=
  MayOwe.of_cut (L := L) (lev := lv) (n - 1) (fun p hp => by rw [Finset.mem_singleton.mp hp, L_tc]; exact Finset.mem_singleton_self _)
    (fun g u hg => by rw [L, if_pos (h g u hg).1]; exact Finset.mem_singleton_self _)
    (fun p hp => by rw [Finset.mem_singleton.mp hp]; exact Nat.le_pred_of_lt hl)
    (fun g u hg => by have := (h g u hg).2; omega)

end Cert.KernelIdeal.Talk
-- ==== Proof.KernelIdeal.Ghost.lean ====
/-
  What a device holds when its kernel starts: the protocol's invariants, tokens, positions and credit, grouped by the other device; and the
  schedule's tables at each offset.
-/
module

public import proofs.«01_k».proof.Proof.KernelIdeal.Protocol

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (X : Filled F) (K : GSem nD τ sig → ℕ) (c : Dev nD)

/-! ## Per other device -/

/-- The invariants and known facts of the pair (device, the one `o = i + 1` places ahead): the barriers and the arrivals there, the departures and
    the arrivals of slot `o` here. -/
def peerInv (o i : ℕ) : sProp 𝕄 :=
  iprop((cellInv ER (sched X) (K (barCell (fw c o))) (barCell (fw c o)) ∗ cellInv ER (sched X) (K (secCell (fw c o))) (secCell (fw c o)))
    ∗ (cellInv ER (sched X) (K (recvCell (fw c o) i 0)) (recvCell (fw c o) i 0) ∗ cellInv ER (sched X) (K (recvCell (fw c o) i 1)) (recvCell (fw c o) i 1))
    ∗ (cellInv ER (sched X) (K (sendCell c i 0)) (sendCell c i 0) ∗ cellInv ER (sched X) (K (sendCell c i 1)) (sendCell c i 1))
    ∗ (cellInv ER (sched X) (K (recvCell c i 0)) (recvCell c i 0) ∗ cellInv ER (sched X) (K (recvCell c i 1)) (recvCell c i 1))
    ∗ reached ER (barCell (fw c o)) 0)
/-- The cells here have been opened. -/
def peerOpen (i : ℕ) : sProp 𝕄 :=
  iprop((reached ER (sendCell c i 0) 0 ∗ reached ER (sendCell c i 1) 0) ∗ (reached ER (recvCell c i 0) 0 ∗ reached ER (recvCell c i 1) 0))
/-- The tokens of the duties the device pays towards that other device. -/
def peerTok (o i : ℕ) : sProp 𝕄 :=
  iprop((dutyTok ER (barCell (fw c o)) 0 o ∗ dutyTok ER (secCell (fw c o)) 0 o)
    ∗ (dutyTok ER (recvCell (fw c o) i 0) 0 0 ∗ dutyTok ER (recvCell (fw c o) i 1) 0 0)
    ∗ (dutyTok ER (sendCell c i 0) 0 0 ∗ dutyTok ER (sendCell c i 1) 0 0))
def peerPos (i : ℕ) : sProp 𝕄 :=
  iprop((atPos ER (sendCell c i 0) 0 ∅ 0 ∗ atPos ER (sendCell c i 1) 0 ∅ 0) ∗ (atPos ER (recvCell c i 0) 0 ∅ 0 ∗ atPos ER (recvCell c i 1) 0 ∅ 0))
def peerCred (i : ℕ) : sProp 𝕄 :=
  iprop(cred (tallyAt (recvCell c i 0) () N) ∗ cred (tallyAt (recvCell c i 1) () N))

instance peerInv_persistent (o i : ℕ) : BI.Persistent (peerInv X K c o i) := by unfold peerInv; infer_instance
instance peerOpen_persistent (i : ℕ) : BI.Persistent (peerOpen (F := F) c i) := by unfold peerOpen; infer_instance

/-- One thing for each of the seven other devices. -/
def seven (Φ : ℕ → ℕ → sProp 𝕄) : sProp 𝕄 := iprop(Φ 1 0 ∗ Φ 2 1 ∗ Φ 3 2 ∗ Φ 4 3 ∗ Φ 5 4 ∗ Φ 6 5 ∗ Φ 7 6)

instance seven_persistent (Φ : ℕ → ℕ → sProp 𝕄) [∀ o i, BI.Persistent (Φ o i)] : BI.Persistent (seven Φ) := by unfold seven; infer_instance

theorem seven_eq (Φ : ℕ → ℕ → sProp 𝕄) : seven Φ = bigSep Finset.univ fun i : Fin 7 => Φ (i.val + 1) i.val := by
  rw [BI.bigSep_univ_eq_bigSepL [(0 : Fin 7), 1, 2, 3, 4, 5, 6] (by decide) (by decide)]
  rfl

/-! ## The tables at each offset -/

/-- What a signal on `t`'s barrier hands over, the signaller `e = j + 1` places ahead of `t`. -/
abbrev barPayAt (t : Dev nD) (e j : ℕ) (h : e < 8) : sProp 𝕄 :=
  iprop(slotAny (fw t e) e h
    ∗ reached ER (recvCell (fw t e) j 0) 0 ∗ reached ER (recvCell (fw t e) j 1) 0 ∗ reached ER (secCell (fw t e)) 0)
abbrev landQ (o b : ℕ) (h : o < 8) : sProp 𝕄 :=
  iprop(∃ fd : BufQ F, ptQ c o h fullShare ((slotQ o h).view.write (Elt F) fd ((slotQ 0 (by decide)).view.read (Elt F) (X.q (fw c b))) Finset.univ))
abbrev landO (o b : ℕ) (h : o < 8) : sProp 𝕄 :=
  iprop(∃ fd : BufO F, ptO c o h fullShare ((slotO o h).view.write (Elt F) fd ((slotO 0 (by decide)).view.read (Elt F) (X.o (fw c b))) Finset.univ))

theorem payload_bar_1 : (sched X).payload (barCell c) 0 1 = barPayAt c 7 6 (by decide) := payload_bar X c 1 (by decide)
theorem payload_bar_2 : (sched X).payload (barCell c) 0 2 = barPayAt c 6 5 (by decide) := payload_bar X c 2 (by decide)
theorem payload_bar_3 : (sched X).payload (barCell c) 0 3 = barPayAt c 5 4 (by decide) := payload_bar X c 3 (by decide)
theorem payload_bar_4 : (sched X).payload (barCell c) 0 4 = barPayAt c 4 3 (by decide) := payload_bar X c 4 (by decide)
theorem payload_bar_5 : (sched X).payload (barCell c) 0 5 = barPayAt c 3 2 (by decide) := payload_bar X c 5 (by decide)
theorem payload_bar_6 : (sched X).payload (barCell c) 0 6 = barPayAt c 2 1 (by decide) := payload_bar X c 6 (by decide)
theorem payload_bar_7 : (sched X).payload (barCell c) 0 7 = barPayAt c 1 0 (by decide) := payload_bar X c 7 (by decide)

theorem payload_send_0 (d : ℕ) : (sched X).payload (sendCell c 0 0) 0 d = ptQ c 0 (by decide) (sh 1) (X.q c) := payload_send0 X c 0 d (by decide)
theorem payload_send_1 (d : ℕ) : (sched X).payload (sendCell c 1 0) 0 d = ptQ c 0 (by decide) (sh 2) (X.q c) := payload_send0 X c 1 d (by decide)
theorem payload_send_2 (d : ℕ) : (sched X).payload (sendCell c 2 0) 0 d = ptQ c 0 (by decide) (sh 3) (X.q c) := payload_send0 X c 2 d (by decide)
theorem payload_send_3 (d : ℕ) : (sched X).payload (sendCell c 3 0) 0 d = ptQ c 0 (by decide) (sh 4) (X.q c) := payload_send0 X c 3 d (by decide)
theorem payload_send_4 (d : ℕ) : (sched X).payload (sendCell c 4 0) 0 d = ptQ c 0 (by decide) (sh 5) (X.q c) := payload_send0 X c 4 d (by decide)
theorem payload_send_5 (d : ℕ) : (sched X).payload (sendCell c 5 0) 0 d = ptQ c 0 (by decide) (sh 6) (X.q c) := payload_send0 X c 5 d (by decide)
theorem payload_send_6 (d : ℕ) : (sched X).payload (sendCell c 6 0) 0 d = ptQ c 0 (by decide) (sh 7) (X.q c) := payload_send0 X c 6 d (by decide)
theorem payload_send_0' (d : ℕ) : (sched X).payload (sendCell c 0 1) 0 d = ptO c 0 (by decide) (sh 1) (X.o c) := payload_send1 X c 0 d (by decide)
theorem payload_send_1' (d : ℕ) : (sched X).payload (sendCell c 1 1) 0 d = ptO c 0 (by decide) (sh 2) (X.o c) := payload_send1 X c 1 d (by decide)
theorem payload_send_2' (d : ℕ) : (sched X).payload (sendCell c 2 1) 0 d = ptO c 0 (by decide) (sh 3) (X.o c) := payload_send1 X c 2 d (by decide)
theorem payload_send_3' (d : ℕ) : (sched X).payload (sendCell c 3 1) 0 d = ptO c 0 (by decide) (sh 4) (X.o c) := payload_send1 X c 3 d (by decide)
theorem payload_send_4' (d : ℕ) : (sched X).payload (sendCell c 4 1) 0 d = ptO c 0 (by decide) (sh 5) (X.o c) := payload_send1 X c 4 d (by decide)
theorem payload_send_5' (d : ℕ) : (sched X).payload (sendCell c 5 1) 0 d = ptO c 0 (by decide) (sh 6) (X.o c) := payload_send1 X c 5 d (by decide)
theorem payload_send_6' (d : ℕ) : (sched X).payload (sendCell c 6 1) 0 d = ptO c 0 (by decide) (sh 7) (X.o c) := payload_send1 X c 6 d (by decide)

theorem payload_recv_0 (d : ℕ) : (sched X).payload (recvCell c 0 0) 0 d = landQ X c 1 7 (by decide) := payload_recv0 X c 0 d (by decide)
theorem payload_recv_1 (d : ℕ) : (sched X).payload (recvCell c 1 0) 0 d = landQ X c 2 6 (by decide) := payload_recv0 X c 1 d (by decide)
theorem payload_recv_2 (d : ℕ) : (sched X).payload (recvCell c 2 0) 0 d = landQ X c 3 5 (by decide) := payload_recv0 X c 2 d (by decide)
theorem payload_recv_3 (d : ℕ) : (sched X).payload (recvCell c 3 0) 0 d = landQ X c 4 4 (by decide) := payload_recv0 X c 3 d (by decide)
theorem payload_recv_4 (d : ℕ) : (sched X).payload (recvCell c 4 0) 0 d = landQ X c 5 3 (by decide) := payload_recv0 X c 4 d (by decide)
theorem payload_recv_5 (d : ℕ) : (sched X).payload (recvCell c 5 0) 0 d = landQ X c 6 2 (by decide) := payload_recv0 X c 5 d (by decide)
theorem payload_recv_6 (d : ℕ) : (sched X).payload (recvCell c 6 0) 0 d = landQ X c 7 1 (by decide) := payload_recv0 X c 6 d (by decide)
theorem payload_recv_0' (d : ℕ) : (sched X).payload (recvCell c 0 1) 0 d = landO X c 1 7 (by decide) := payload_recv1 X c 0 d (by decide)
theorem payload_recv_1' (d : ℕ) : (sched X).payload (recvCell c 1 1) 0 d = landO X c 2 6 (by decide) := payload_recv1 X c 1 d (by decide)
theorem payload_recv_2' (d : ℕ) : (sched X).payload (recvCell c 2 1) 0 d = landO X c 3 5 (by decide) := payload_recv1 X c 2 d (by decide)
theorem payload_recv_3' (d : ℕ) : (sched X).payload (recvCell c 3 1) 0 d = landO X c 4 4 (by decide) := payload_recv1 X c 3 d (by decide)
theorem payload_recv_4' (d : ℕ) : (sched X).payload (recvCell c 4 1) 0 d = landO X c 5 3 (by decide) := payload_recv1 X c 4 d (by decide)
theorem payload_recv_5' (d : ℕ) : (sched X).payload (recvCell c 5 1) 0 d = landO X c 6 2 (by decide) := payload_recv1 X c 5 d (by decide)
theorem payload_recv_6' (d : ℕ) : (sched X).payload (recvCell c 6 1) 0 d = landO X c 7 1 (by decide) := payload_recv1 X c 6 d (by decide)

theorem fw_1_7 : fw (fw c 1) 7 = c := fw_fw c 1 7 rfl
theorem fw_2_6 : fw (fw c 2) 6 = c := fw_fw c 2 6 rfl
theorem fw_3_5 : fw (fw c 3) 5 = c := fw_fw c 3 5 rfl
theorem fw_4_4 : fw (fw c 4) 4 = c := fw_fw c 4 4 rfl
theorem fw_5_3 : fw (fw c 5) 3 = c := fw_fw c 5 3 rfl
theorem fw_6_2 : fw (fw c 6) 2 = c := fw_fw c 6 2 rfl
theorem fw_7_1 : fw (fw c 7) 1 = c := fw_fw c 7 1 rfl

/-! ## What is owed, term by term -/

theorem oBar_eq : oBar c = tallyAt (barCell (fw c 1)) () 1 + tallyAt (barCell (fw c 2)) () 1 + tallyAt (barCell (fw c 3)) () 1
    + tallyAt (barCell (fw c 4)) () 1 + tallyAt (barCell (fw c 5)) () 1 + tallyAt (barCell (fw c 6)) () 1 + tallyAt (barCell (fw c 7)) () 1 :=
  Fin.sum_univ_seven _
theorem oSec_eq : oSec c = tallyAt (secCell (fw c 1)) () 1 + tallyAt (secCell (fw c 2)) () 1 + tallyAt (secCell (fw c 3)) () 1
    + tallyAt (secCell (fw c 4)) () 1 + tallyAt (secCell (fw c 5)) () 1 + tallyAt (secCell (fw c 6)) () 1 + tallyAt (secCell (fw c 7)) () 1 :=
  Fin.sum_univ_seven _
theorem oRecv_eq : oRecv c =
    (tallyAt (recvCell (fw c 1) 0 0) () N + tallyAt (recvCell (fw c 1) 0 1) () N)
    + (tallyAt (recvCell (fw c 2) 1 0) () N + tallyAt (recvCell (fw c 2) 1 1) () N)
    + (tallyAt (recvCell (fw c 3) 2 0) () N + tallyAt (recvCell (fw c 3) 2 1) () N)
    + (tallyAt (recvCell (fw c 4) 3 0) () N + tallyAt (recvCell (fw c 4) 3 1) () N)
    + (tallyAt (recvCell (fw c 5) 4 0) () N + tallyAt (recvCell (fw c 5) 4 1) () N)
    + (tallyAt (recvCell (fw c 6) 5 0) () N + tallyAt (recvCell (fw c 6) 5 1) () N)
    + (tallyAt (recvCell (fw c 7) 6 0) () N + tallyAt (recvCell (fw c 7) 6 1) () N) :=
  Fin.sum_univ_seven _

end Cert.KernelIdeal.Talk
-- ==== Proof.KernelIdeal.Start.lean ====
/-
  What a device holds when its kernel starts and when it ends; the contents of its slot 0 once it has stored its own weights there.
-/
module

public import proofs.«01_k».proof.Proof.KernelIdeal.Ghost
public import Idealize.ShloMosaic.Lib.ValueLayout
public import Idealize.ShloMosaic.Lib.ViewIndex

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig Unit (Elt F) ℕ UU ℕ

variable (X : Filled F) (K : GSem nD τ sig → ℕ) (c : Dev nD)

/-- What a device holds when its kernel starts, the buffers the pipeline stages apart. -/
def opened : sProp 𝕄 :=
  iprop(((cellInv ER (sched X) (K (barCell c)) (barCell c) ∗ cellInv ER (sched X) (K (secCell c)) (secCell c) ∗ reached ER (secCell c) 0 ∗ levAts L lv)
      ∗ seven (peerInv X K c) ∗ seven (fun _ i => peerOpen (F := F) c i))
    ∗ (atPos ER (barCell c) 0 ∅ 0 ∗ atPos ER (secCell c) 0 ∅ 0 ∗ cred (tallyAt (barCell c) () 7) ∗ cred (tallyAt (secCell c) () 7))
    ∗ seven (peerTok (F := F) c) ∗ seven (fun _ i => peerPos (F := F) c i) ∗ seven (fun _ i => peerCred (F := F) c i))

/-- The two slot buffers, slot by slot. -/
def slots : sProp 𝕄 :=
  iprop(slotAny (F := F) c 0 (by decide) ∗ slotAny (F := F) c 1 (by decide) ∗ slotAny (F := F) c 2 (by decide) ∗ slotAny (F := F) c 3 (by decide)
    ∗ slotAny (F := F) c 4 (by decide) ∗ slotAny (F := F) c 5 (by decide) ∗ slotAny (F := F) c 6 (by decide) ∗ slotAny (F := F) c 7 (by decide))

abbrev pt {s : Space} {sh : Shape} {e : EltTy} (m : Memref sig .tc s sh e) (f : Buf (Elt F) (m.view.loc (c : Thread nD τ))) : sProp 𝕄 :=
  m.view.loc (c : Thread nD τ) ↦{fullShare} f

theorem barPayAt_eq (t : Dev nD) (e j : ℕ) (h : e < 8) : (barPayAt t e j h : sProp 𝕄) =
  iprop(slotAny (fw t e) e h
    ∗ reached ER (recvCell (fw t e) j 0) 0 ∗ reached ER (recvCell (fw t e) j 1) 0 ∗ reached ER (secCell (fw t e)) 0) := rfl
/-- What the barrier's seven signals hand over. -/
def barGiven : sProp 𝕄 := iprop(barPayAt c 7 6 (by decide) ∗ barPayAt c 6 5 (by decide) ∗ barPayAt c 5 4 (by decide) ∗ barPayAt c 4 3 (by decide)
  ∗ barPayAt c 3 2 (by decide) ∗ barPayAt c 2 1 (by decide) ∗ barPayAt c 1 0 (by decide))
theorem barGiven_eq : (BI.sep (barPayAt c 7 6 (by decide)) (BI.sep (barPayAt c 6 5 (by decide)) (BI.sep (barPayAt c 5 4 (by decide)) (BI.sep (barPayAt c 4 3 (by decide))
  (BI.sep (barPayAt c 3 2 (by decide)) (BI.sep (barPayAt c 2 1 (by decide)) (barPayAt c 1 0 (by decide))))))) : sProp 𝕄) = barGiven c := rfl
theorem sharesQ (h : 0 < 8) (f : Buf (Elt F) ((slotQ 0 h).view.loc (c : Thread nD τ))) : (ptQ c 0 h fullShare f : sProp 𝕄) = iprop(((slotQ 0 h).view.loc (c : Thread nD τ) ↦[(slotQ 0 h).view.set]{sh 0} f) ∗ ((slotQ 0 h).view.loc (c : Thread nD τ) ↦[(slotQ 0 h).view.set]{sh 1} f) ∗ ((slotQ 0 h).view.loc (c : Thread nD τ) ↦[(slotQ 0 h).view.set]{sh 2} f)
    ∗ ((slotQ 0 h).view.loc (c : Thread nD τ) ↦[(slotQ 0 h).view.set]{sh 3} f) ∗ ((slotQ 0 h).view.loc (c : Thread nD τ) ↦[(slotQ 0 h).view.set]{sh 4} f) ∗ ((slotQ 0 h).view.loc (c : Thread nD τ) ↦[(slotQ 0 h).view.set]{sh 5} f) ∗ ((slotQ 0 h).view.loc (c : Thread nD τ) ↦[(slotQ 0 h).view.set]{sh 6} f) ∗ ((slotQ 0 h).view.loc (c : Thread nD τ) ↦[(slotQ 0 h).view.set]{sh 7} f)) := by
  rw [ptQ, ShareLeaves.pointsTo_leaves _ f 3 fullShare]
  rw [BI.bigSep_univ_eq_bigSepL [(0 : Fin (2 ^ 3)), 1, 2, 3, 4, 5, 6, 7] (by decide) (by decide)]
  rfl
theorem sharesO (h : 0 < 8) (f : Buf (Elt F) ((slotO 0 h).view.loc (c : Thread nD τ))) : (ptO c 0 h fullShare f : sProp 𝕄) = iprop(((slotO 0 h).view.loc (c : Thread nD τ) ↦[(slotO 0 h).view.set]{sh 0} f) ∗ ((slotO 0 h).view.loc (c : Thread nD τ) ↦[(slotO 0 h).view.set]{sh 1} f) ∗ ((slotO 0 h).view.loc (c : Thread nD τ) ↦[(slotO 0 h).view.set]{sh 2} f)
    ∗ ((slotO 0 h).view.loc (c : Thread nD τ) ↦[(slotO 0 h).view.set]{sh 3} f) ∗ ((slotO 0 h).view.loc (c : Thread nD τ) ↦[(slotO 0 h).view.set]{sh 4} f) ∗ ((slotO 0 h).view.loc (c : Thread nD τ) ↦[(slotO 0 h).view.set]{sh 5} f) ∗ ((slotO 0 h).view.loc (c : Thread nD τ) ↦[(slotO 0 h).view.set]{sh 6} f) ∗ ((slotO 0 h).view.loc (c : Thread nD τ) ↦[(slotO 0 h).view.set]{sh 7} f)) := by
  rw [ptO, ShareLeaves.pointsTo_leaves _ f 3 fullShare]
  rw [BI.bigSep_univ_eq_bigSepL [(0 : Fin (2 ^ 3)), 1, 2, 3, 4, 5, 6, 7] (by decide) (by decide)]
  rfl
theorem slotAny_raw (o : ℕ) (h : o < 8) : (slotAny c o h : sProp 𝕄) =
  iprop((∃ f : BufQ F, (slotQ o h).view.loc (c : Thread nD τ) ↦[(slotQ o h).view.set]{fullShare} f) ∗ (∃ f : BufO F, (slotO o h).view.loc (c : Thread nD τ) ↦[(slotO o h).view.set]{fullShare} f)) := slotAny_eq c o h
/-- Every copy's wait stands below the second barrier. -/
theorem mayWaitDma (s : DmaSem sig) : (levAts L lv : sProp 𝕄) ⊢ MayWait (c : Thread nD τ) (.dma s) () (oSec c) :=
  mayWait c (.dma s) (above_sec c) (by show (if s.val < 20 then 0 else 2) < 3; split <;> decide)
theorem landQ_eq (o b : ℕ) (h : o < 8) : (landQ X c o b h : sProp 𝕄) = iprop(∃ fd : BufQ F, (slotQ o h).view.loc (c : Thread nD τ) ↦[(slotQ o h).view.set]{fullShare} ((slotQ o h).view.write (Elt F) fd ((slotQ 0 (by decide)).view.read (Elt F) (X.q (fw c b))) Finset.univ)) := rfl
theorem landO_eq (o b : ℕ) (h : o < 8) : (landO X c o b h : sProp 𝕄) = iprop(∃ fd : BufO F, (slotO o h).view.loc (c : Thread nD τ) ↦[(slotO o h).view.set]{fullShare} ((slotO o h).view.write (Elt F) fd ((slotO 0 (by decide)).view.read (Elt F) (X.o (fw c b))) Finset.univ)) := rfl

/-! ## The contents of slot 0 -/

abbrev BufWq (F : FTy → Type) : Type := Buf (Elt F) ((Memref.whole cc0_stg1_0).view.loc ((0 : Dev nD) : Thread nD τ))
abbrev BufWo (F : FTy → Type) : Type := Buf (Elt F) ((Memref.whole cc0_stg4_0).view.loc ((0 : Dev nD) : Thread nD τ))

/-- Every device's buffers of slots hold its own weights (in every slot: only slot 0 is read). -/
def filled (wq : Dev nD → BufWq F) (wo : Dev nD → BufWo F) : Filled F where
  q d := fun i : S8x512x256.Idx => wq d (ix2 (i 1) (i 2))
  o d := fun i : S8x256x512.Idx => wo d (ix2 (i 1) (i 2))

/-- Once a device has stored its query weights in slot 0, the slot holds them whatever it held. -/
theorem fillQ (wq : Dev nD → BufWq F) (wo : Dev nD → BufWo F) (f : BufQ F) (h : 0 < 8)
    (hb : ∀ a, (![0, 0, 0] : Fin 3 → ℕ) a + S1x512x256.size a ≤ S8x512x256.size a) (h0 : ∀ a, (![0, 0] : Fin 2 → ℕ) a + S512x256.size a ≤ S512x256.size a)
    (h1 : S512x256.ShapeCasts S512x256) (h2 : S512x256.ShapeCasts S1x512x256) :
    (ptQ c 0 h fullShare (View.write (Elt F) ((Memref.whole cc0_scratch0).access (Rect.unit ![0, 0, 0] S1x512x256.size hb)) f
      (shapeCast S1x512x256 (shapeCast S512x256 (View.readAt (Elt F) (Memref.whole cc0_stg1_0).view (Rect.unit ![0, 0] S512x256.size h0).toLoadRect (wq c)) h1) h2)
      Finset.univ) : sProp 𝕄) = ptQ c 0 h fullShare ((filled wq wo).q c) := by
  refine pointsTo_congr fun i hi => ?_
  obtain ⟨x, rfl⟩ := View.exists_of_mem_set_slice (v := (Memref.whole cc0_scratch0).view) (r := Rect.unit ![0, 0, 0] S1x512x256.size hb) (by rwa [View.set_reshape] at hi)
  obtain ⟨z, r, k, rfl⟩ : ∃ (z : Fin 1) (r : Fin 512) (k : Fin 256), x = ix3 z r k := ⟨_, _, _, eq_ix3 x⟩
  refine (View.write_emb_of_mem (v := (Memref.whole cc0_scratch0).access (Rect.unit ![0, 0, 0] S1x512x256.size hb)) _ _ (Finset.mem_univ _)).trans ?_
  rw [shapeCast_ab_1ab_apply]
  have e : shapeCast S512x256 (View.readAt (Elt F) (Memref.whole cc0_stg1_0).view (Rect.unit ![0, 0] S512x256.size h0).toLoadRect (wq c)) h1 = wq c :=
    (shapeCast_self _ _).trans (Memref.readAt_unit_zero _ _ (funext fun a => by fin_cases a <;> rfl) _ _)
  refine (congrFun e (ix2 r k)).trans (congrArg (wq c) ?_)
  exact congrArg₂ ix2 (Fin.ext (Nat.zero_add _ |>.trans (Nat.one_mul _)).symm) (Fin.ext (Nat.zero_add _ |>.trans (Nat.one_mul _)).symm)
/-- The same of the output weights. -/
theorem fillO (wq : Dev nD → BufWq F) (wo : Dev nD → BufWo F) (f : BufO F) (h : 0 < 8)
    (hb : ∀ a, (![0, 0, 0] : Fin 3 → ℕ) a + S1x256x512.size a ≤ S8x256x512.size a) (h0 : ∀ a, (![0, 0] : Fin 2 → ℕ) a + S256x512.size a ≤ S256x512.size a)
    (h1 : S256x512.ShapeCasts S256x512) (h2 : S256x512.ShapeCasts S1x256x512) :
    (ptO c 0 h fullShare (View.write (Elt F) ((Memref.whole cc0_scratch1).access (Rect.unit ![0, 0, 0] S1x256x512.size hb)) f
      (shapeCast S1x256x512 (shapeCast S256x512 (View.readAt (Elt F) (Memref.whole cc0_stg4_0).view (Rect.unit ![0, 0] S256x512.size h0).toLoadRect (wo c)) h1) h2)
      Finset.univ) : sProp 𝕄) = ptO c 0 h fullShare ((filled wq wo).o c) := by
  refine pointsTo_congr fun i hi => ?_
  obtain ⟨x, rfl⟩ := View.exists_of_mem_set_slice (v := (Memref.whole cc0_scratch1).view) (r := Rect.unit ![0, 0, 0] S1x256x512.size hb) (by rwa [View.set_reshape] at hi)
  obtain ⟨z, r, k, rfl⟩ : ∃ (z : Fin 1) (r : Fin 256) (k : Fin 512), x = ix3 z r k := ⟨_, _, _, eq_ix3 x⟩
  refine (View.write_emb_of_mem (v := (Memref.whole cc0_scratch1).access (Rect.unit ![0, 0, 0] S1x256x512.size hb)) _ _ (Finset.mem_univ _)).trans ?_
  rw [shapeCast_ab_1ab_apply]
  have e : shapeCast S256x512 (View.readAt (Elt F) (Memref.whole cc0_stg4_0).view (Rect.unit ![0, 0] S256x512.size h0).toLoadRect (wo c)) h1 = wo c :=
    (shapeCast_self _ _).trans (Memref.readAt_unit_zero _ _ (funext fun a => by fin_cases a <;> rfl) _ _)
  refine (congrFun e (ix2 r k)).trans (congrArg (wo c) ?_)
  exact congrArg₂ ix2 (Fin.ext (Nat.zero_add _ |>.trans (Nat.one_mul _)).symm) (Fin.ext (Nat.zero_add _ |>.trans (Nat.one_mul _)).symm)

/-! ## The end -/

/-- The positions on the copies' cells, their one round past. -/
def donePos (i : ℕ) : sProp 𝕄 :=
  iprop((atPos ER (sendCell c i 0) 1 ∅ 0 ∗ atPos ER (sendCell c i 1) 1 ∅ 0) ∗ (atPos ER (recvCell c i 0) 1 ∅ 0 ∗ atPos ER (recvCell c i 1) 1 ∅ 0))

/-- Slot 0's shares back together. -/
theorem shared_slot0 (fq : BufQ F) (fo : BufO F) :
    iprop((ptQ c 0 (by decide) (sh 0) fq ∗ ptQ c 0 (by decide) (sh 1) fq ∗ ptQ c 0 (by decide) (sh 2) fq ∗ ptQ c 0 (by decide) (sh 3) fq
      ∗ ptQ c 0 (by decide) (sh 4) fq ∗ ptQ c 0 (by decide) (sh 5) fq ∗ ptQ c 0 (by decide) (sh 6) fq ∗ ptQ c 0 (by decide) (sh 7) fq)
      ∗ (ptO c 0 (by decide) (sh 0) fo ∗ ptO c 0 (by decide) (sh 1) fo ∗ ptO c 0 (by decide) (sh 2) fo ∗ ptO c 0 (by decide) (sh 3) fo
      ∗ ptO c 0 (by decide) (sh 4) fo ∗ ptO c 0 (by decide) (sh 5) fo ∗ ptO c 0 (by decide) (sh 6) fo ∗ ptO c 0 (by decide) (sh 7) fo))
    ⊢ (slotAny c 0 (by decide) : sProp 𝕄) := by
  rw [slotAny_eq]
  iintro ⟨Hq, Ho⟩
  ihave Hq := (Entails.of_eq (sharesQ c _ fq).symm) $$ Hq
  ihave Ho := (Entails.of_eq (sharesO c _ fo).symm) $$ Ho
  isplitl [Hq]
  · iexists fq; iexact Hq
  · iexists fo; iexact Ho
theorem slot_of (o : ℕ) (h : o < 8) (fq : BufQ F) (fo : BufO F) :
    iprop(ptQ c o h fullShare fq ∗ ptO c o h fullShare fo) ⊢ (slotAny c o h : sProp 𝕄) := by
  rw [slotAny_eq]
  iintro ⟨Hq, Ho⟩
  isplitl [Hq]
  · iexists fq; iexact Hq
  · iexists fo; iexact Ho

end Cert.KernelIdeal.Talk
-- ==== Proof.KernelIdeal.Hop.lean ====
/-
  One step of the kernel as a function of vectors: what is stored in the two working buffers, what is read back, and the product with a slice of the
  output weights.
-/
module

public import proofs.«01_k».proof.Proof.KernelIdeal.Start
public import proofs.«01_k».proof.Proof.Gen.KernelIdeal.Skeleton

@[expose] public section

noncomputable section

namespace Cert.KernelIdeal.Talk

open Cert.KernelIdeal Cert.KernelIdeal.Gen
open Idealize.ShloMosaic Idealize.ShloMosaic.TcCoe

variable {F : FTy → Type} [FloatOps F] [Named F]

/-- The stores made so far in the queries' and the contexts' working buffers, the last one first. -/
abbrev StoresA (F : FTy → Type) : Type := List (View.Piece (Elt F) cc0_scratch3.ty.shape cc0_scratch3.ty.elt)
abbrev StoresC (F : FTy → Type) : Type := List (View.Piece (Elt F) cc0_scratch2.ty.shape cc0_scratch2.ty.elt)

theorem fitA (b r s : ℕ) (hb : b < 2) (hr : r ≤ 384) (hs : s ≤ 192) : ∀ a, (![b, r, s] : Fin 3 → ℕ) a + S1x128x64.size a ≤ S2x512x256.size a := by
  intro a
  fin_cases a
  · show b + 1 ≤ 2; omega
  · show r + 128 ≤ 512; omega
  · show s + 64 ≤ 256; omega
theorem fitRow (b : ℕ) (hb : b < 2) : ∀ a, (![b, 0, 0] : Fin 3 → ℕ) a + S1x512x256.size a ≤ S2x512x256.size a := by
  intro a
  fin_cases a
  · show b + 1 ≤ 2; omega
  · show 0 + 512 ≤ 512; omega
  · show 0 + 256 ≤ 256; omega
theorem fitC (r s : ℕ) (hr : r ≤ 128) (hs : s ≤ 192) : ∀ a, (![r, s] : Fin 2 → ℕ) a + S128x64.size a ≤ S256x256.size a := by
  intro a
  fin_cases a
  · show r + 128 ≤ 256; omega
  · show s + 64 ≤ 256; omega
theorem fitQ (r s : ℕ) (hr : r ≤ 128) (hs : s ≤ 192) : S256x256.Slices ![r, s] S128x64 := by
  refine ⟨rfl, fun a => ?_⟩
  fin_cases a
  · show r + 128 ≤ 256; omega
  · show s + 64 ≤ 256; omega
theorem fitP (r s : ℕ) (hr : r ≤ 384) (hs : s ≤ 192) : S512x256.Slices ![r, s] S128x64 := by
  refine ⟨rfl, fun a => ?_⟩
  fin_cases a
  · show r + 128 ≤ 512; omega
  · show s + 64 ≤ 256; omega

/-- One head's queries, as stored. -/
def chunkQ (q : FVec F S256x256 .bf16) (r s : ℕ) (h : S256x256.Slices ![r, s] S128x64) : FVec F S1x128x64 .bf16 :=
  shapeCast S1x128x64 (extractStridedSlice S128x64 ![r, s] q h) shapeCasts_S128x64_S1x128x64
/-- One head's context, as stored. -/
def chunkC (p : FVec F S512x256 .f32) (r s : ℕ) (h : S512x256.Slices ![r, s] S128x64) : FVec F S128x64 .bf16 :=
  shapeCast S128x64 (truncf .bf16 (extractStridedSlice S128x64 ![r, s] p h) bitsLt_bf16_f32) shapeCasts_S128x64_S128x64

/-- The four heads' queries of one batch laid on the diagonal of plane `b`. -/
def laidA (b r : ℕ) (hb : b < 2) (hr : r ≤ 128) (q : FVec F S256x256 .bf16) (L : StoresA F) : StoresA F :=
  ⟨Rect.unit ![b, 384, 192] S1x128x64.size (fitA b 384 192 hb (by decide) (by decide)), chunkQ q r 192 (fitQ r 192 hr (by decide))⟩
    :: ⟨Rect.unit ![b, 256, 128] S1x128x64.size (fitA b 256 128 hb (by decide) (by decide)), chunkQ q r 128 (fitQ r 128 hr (by decide))⟩
    :: ⟨Rect.unit ![b, 128, 64] S1x128x64.size (fitA b 128 64 hb (by decide) (by decide)), chunkQ q r 64 (fitQ r 64 hr (by decide))⟩
    :: ⟨Rect.unit ![b, 0, 0] S1x128x64.size (fitA b 0 0 hb (by decide) (by decide)), chunkQ q r 0 (fitQ r 0 hr (by decide))⟩ :: L
/-- The four heads' contexts of one batch side by side in rows `r …`. -/
def laidC (r : ℕ) (hr : r ≤ 128) (p : FVec F S512x256 .f32) (L : StoresC F) : StoresC F :=
  ⟨Rect.unit ![r, 192] S128x64.size (fitC r 192 hr (by decide)), chunkC p 384 192 (fitP 384 192 (by decide) (by decide))⟩
    :: ⟨Rect.unit ![r, 128] S128x64.size (fitC r 128 hr (by decide)), chunkC p 256 128 (fitP 256 128 (by decide) (by decide))⟩
    :: ⟨Rect.unit ![r, 64] S128x64.size (fitC r 64 hr (by decide)), chunkC p 128 64 (fitP 128 64 (by decide) (by decide))⟩
    :: ⟨Rect.unit ![r, 0] S128x64.size (fitC r 0 hr (by decide)), chunkC p 0 0 (fitP 0 0 (by decide) (by decide))⟩ :: L

/-- Plane `b` of the queries' buffer, and the whole of the contexts', read back. -/
def readA (b : ℕ) (hb : b < 2) (L : StoresA F) : Vec F S1x512x256 .bf16 :=
  (Memref.whole cc0_scratch3).view.readCov L (Rect.unit (s := S2x512x256) ![b, 0, 0] S1x512x256.size (fitRow b hb)).toLoadRect
def readC (L : StoresC F) : Vec F S256x256 .bf16 :=
  (Memref.whole cc0_scratch2).view.readCov L (Rect.unit (s := S256x256) ![0, 0] S256x256.size inb_S256x256_S256x256_0_0).toLoadRect

/-- The additive mask. -/
def neg : FVec F S512x128 .f32 :=
  k0_pay13 (k0_pay11 k0_pay5 64#32 k0_pay6 k0_pay7 k0_pay8) (k0_pay12 k0_pay5 64#32 k0_pay6 k0_pay7 k0_pay8)

/-- The queries' stores after a step, from those before it. -/
def stepA (x : FVec F S256x512 .bf16) (w : Vec F S1x512x256 .bf16) (L : StoresA F) : StoresA F :=
  laidA 1 128 (by decide) (by decide) (k0_pay14 x w) (laidA 0 0 (by decide) (by decide) (k0_pay14 x w) L)
/-- The contexts' stores after a step, from those before it and the queries' before it. -/
def stepC (x : FVec F S256x512 .bf16) (w : Vec F S1x512x256 .bf16) (k₀ v₀ k₁ v₁ : Vec F S1x128x256 .bf16) (L : StoresA F) (M : StoresC F) : StoresC F :=
  laidC 128 (by decide) (k0_pay19 neg k₁ v₁ (readA 1 (by decide) (stepA x w L)))
    (laidC 0 (by decide) (k0_pay19 neg k₀ v₀ (readA 0 (by decide) (laidA 0 0 (by decide) (by decide) (k0_pay14 x w) L))) M)
/-- What a step adds to the result. -/
def stepV (x : FVec F S256x512 .bf16) (w : Vec F S1x512x256 .bf16) (u : Vec F S1x256x512 .bf16) (k₀ v₀ k₁ v₁ : Vec F S1x128x256 .bf16) (L : StoresA F) (M : StoresC F) :
    FVec F S256x512 .f32 :=
  matmul dot_S256x256_S256x512_S256x512_1_0_0_1_n_n none (readC (stepC x w k₀ v₀ k₁ v₁ L M))
    (shapeCast S256x512 u shapeCasts_S1x256x512_S256x512) (constant S256x512 .f32 0x00000000#32)

end Cert.KernelIdeal.Talk
-- ==== Proof.KernelIdeal.Run.lean ====
/-
  The kernel's body, run once at a device not chosen.
-/
module

public import proofs.«01_k».proof.Proof.KernelIdeal.Start
public import proofs.«01_k».proof.Proof.Gen.KernelIdeal.Skeleton
public import proofs.«01_k».proof.Proof.Gen.KernelIdeal.Points

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F] [Named F]

local notation "𝕄" => MT nD τ sig Unit (Elt F) ℕ UU ℕ

variable (X : Filled F) (K : GSem nD τ sig → ℕ) (c : Dev nD)

theorem dev1 : (⟨k0_dev1 c, k0_dev1_lt c⟩ : Dev nD) = fw c 1 := Fin.ext (k0_dev1_eq c)
theorem dev2 : (⟨k0_dev2 c, k0_dev2_lt c⟩ : Dev nD) = fw c 2 := Fin.ext (k0_dev2_eq c)
theorem dev3 : (⟨k0_dev3 c, k0_dev3_lt c⟩ : Dev nD) = fw c 3 := Fin.ext (k0_dev3_eq c)
theorem dev4 : (⟨k0_dev4 c, k0_dev4_lt c⟩ : Dev nD) = fw c 4 := Fin.ext (k0_dev4_eq c)
theorem dev5 : (⟨k0_dev5 c, k0_dev5_lt c⟩ : Dev nD) = fw c 5 := Fin.ext (k0_dev5_eq c)
theorem dev6 : (⟨k0_dev6 c, k0_dev6_lt c⟩ : Dev nD) = fw c 6 := Fin.ext (k0_dev6_eq c)
theorem dev7 : (⟨k0_dev7 c, k0_dev7_lt c⟩ : Dev nD) = fw c 7 := Fin.ext (k0_dev7_eq c)

theorem dev8 : (⟨k0_dev8 c, k0_dev8_lt c⟩ : Dev nD) = fw c 1 := Fin.ext (k0_dev8_eq c)
theorem dev9 : (⟨k0_dev9 c, k0_dev9_lt c⟩ : Dev nD) = fw c 1 := Fin.ext (k0_dev9_eq c)
theorem dev10 : (⟨k0_dev10 c, k0_dev10_lt c⟩ : Dev nD) = fw c 2 := Fin.ext (k0_dev10_eq c)
theorem dev11 : (⟨k0_dev11 c, k0_dev11_lt c⟩ : Dev nD) = fw c 2 := Fin.ext (k0_dev11_eq c)
theorem dev12 : (⟨k0_dev12 c, k0_dev12_lt c⟩ : Dev nD) = fw c 3 := Fin.ext (k0_dev12_eq c)
theorem dev13 : (⟨k0_dev13 c, k0_dev13_lt c⟩ : Dev nD) = fw c 3 := Fin.ext (k0_dev13_eq c)
theorem dev14 : (⟨k0_dev14 c, k0_dev14_lt c⟩ : Dev nD) = fw c 4 := Fin.ext (k0_dev14_eq c)
theorem dev15 : (⟨k0_dev15 c, k0_dev15_lt c⟩ : Dev nD) = fw c 4 := Fin.ext (k0_dev15_eq c)
theorem dev16 : (⟨k0_dev16 c, k0_dev16_lt c⟩ : Dev nD) = fw c 5 := Fin.ext (k0_dev16_eq c)
theorem dev17 : (⟨k0_dev17 c, k0_dev17_lt c⟩ : Dev nD) = fw c 5 := Fin.ext (k0_dev17_eq c)
theorem dev18 : (⟨k0_dev18 c, k0_dev18_lt c⟩ : Dev nD) = fw c 6 := Fin.ext (k0_dev18_eq c)
theorem dev19 : (⟨k0_dev19 c, k0_dev19_lt c⟩ : Dev nD) = fw c 6 := Fin.ext (k0_dev19_eq c)
theorem dev20 : (⟨k0_dev20 c, k0_dev20_lt c⟩ : Dev nD) = fw c 7 := Fin.ext (k0_dev20_eq c)
theorem dev21 : (⟨k0_dev21 c, k0_dev21_lt c⟩ : Dev nD) = fw c 7 := Fin.ext (k0_dev21_eq c)
theorem dev22 : (⟨k0_dev22 c, k0_dev22_lt c⟩ : Dev nD) = fw c 1 := Fin.ext (k0_dev22_eq c)
theorem dev23 : (⟨k0_dev23 c, k0_dev23_lt c⟩ : Dev nD) = fw c 2 := Fin.ext (k0_dev23_eq c)
theorem dev24 : (⟨k0_dev24 c, k0_dev24_lt c⟩ : Dev nD) = fw c 3 := Fin.ext (k0_dev24_eq c)
theorem dev25 : (⟨k0_dev25 c, k0_dev25_lt c⟩ : Dev nD) = fw c 4 := Fin.ext (k0_dev25_eq c)
theorem dev26 : (⟨k0_dev26 c, k0_dev26_lt c⟩ : Dev nD) = fw c 5 := Fin.ext (k0_dev26_eq c)
theorem dev27 : (⟨k0_dev27 c, k0_dev27_lt c⟩ : Dev nD) = fw c 6 := Fin.ext (k0_dev27_eq c)
theorem dev28 : (⟨k0_dev28 c, k0_dev28_lt c⟩ : Dev nD) = fw c 7 := Fin.ext (k0_dev28_eq c)

attribute [local sl_canon] dev1 dev2 dev3 dev4 dev5 dev6 dev7 dev8 dev9 dev10 dev11 dev12 dev13 dev14 dev15 dev16 dev17 dev18 dev19 dev20 dev21 dev22 dev23 dev24 dev25 dev26 dev27 dev28
attribute [local sl_rounds] barPayAt_eq landQ_eq landO_eq duties_bar duties_sec duties_send duties_recv amount_bar amount_sec amount_send amount_recv
  expect_bar expect_sec expect_send expect_recv payload_sec
  payload_bar_1 payload_bar_2 payload_bar_3 payload_bar_4 payload_bar_5 payload_bar_6 payload_bar_7
  payload_send_0 payload_send_1 payload_send_2 payload_send_3 payload_send_4 payload_send_5 payload_send_6
  payload_send_0' payload_send_1' payload_send_2' payload_send_3' payload_send_4' payload_send_5' payload_send_6'
  payload_recv_0 payload_recv_1 payload_recv_2 payload_recv_3 payload_recv_4 payload_recv_5 payload_recv_6
  payload_recv_0' payload_recv_1' payload_recv_2' payload_recv_3' payload_recv_4' payload_recv_5' payload_recv_6'
  fw_1_7 fw_2_6 fw_3_5 fw_4_4 fw_5_3 fw_6_2 fw_7_1

/-- What the body leaves, the result at contents `R` of what the slots held. -/
def ended (x : Buf (Elt F) ((Memref.whole cc0_stg0_0).view.loc (c : Thread nD τ))) (wq : Buf (Elt F) ((Memref.whole cc0_stg1_0).view.loc (c : Thread nD τ)))
    (kf : Buf (Elt F) ((Memref.whole cc0_stg2_0).view.loc (c : Thread nD τ))) (vf : Buf (Elt F) ((Memref.whole cc0_stg3_0).view.loc (c : Thread nD τ)))
    (wo : Buf (Elt F) ((Memref.whole cc0_stg4_0).view.loc (c : Thread nD τ)))
    (o : Buf (Elt F) ((Memref.whole cc0_stg5_0).view.loc (c : Thread nD τ))) : sProp 𝕄 :=
  iprop((slots c ∗ (atPos ER (barCell c) 1 ∅ 0 ∗ atPos ER (secCell c) 1 ∅ 0) ∗ seven (fun _ i => donePos (F := F) c i) ∗ (∃ W, owes (c : Thread nD τ) 0 W))
    ∗ (pt c (Memref.whole cc0_stg0_0) x ∗ pt c (Memref.whole cc0_stg1_0) wq ∗ pt c (Memref.whole cc0_stg2_0) kf ∗ pt c (Memref.whole cc0_stg3_0) vf
      ∗ pt c (Memref.whole cc0_stg4_0) wo ∗ pt c (Memref.whole cc0_stg5_0) o)
    ∗ (∃ f, pt c (Memref.whole cc0_scratch2) f) ∗ ∃ f, pt c (Memref.whole cc0_scratch3) f)

/-- The contents of the result, as the run computes them: a function of the arrays staged and of what the slots held before the copies arrived. -/
abbrev Res (F : FTy → Type) : Type :=
  BufQ F → BufO F → BufQ F → BufO F → BufQ F → BufO F → BufQ F → BufO F → BufQ F → BufO F → BufQ F → BufO F → BufQ F → BufO F → Buf (Elt F) ((Memref.whole cc0_stg5_0).view.loc ((0 : Dev nD) : Thread nD τ))

set_option maxHeartbeats 8000000 in
/-- The run: from `opened` to `ended`, with the result it leaves. -/
def run (x : Buf (Elt F) ((Memref.whole cc0_stg0_0).view.loc (c : Thread nD τ))) (wq : Dev nD → BufWq F)
    (kf : Buf (Elt F) ((Memref.whole cc0_stg2_0).view.loc (c : Thread nD τ))) (vf : Buf (Elt F) ((Memref.whole cc0_stg3_0).view.loc (c : Thread nD τ)))
    (wo : Dev nD → BufWo F) (o : Buf (Elt F) ((Memref.whole cc0_stg5_0).view.loc (c : Thread nD τ))) :
    {R : Res F // ∀ (K : GSem nD τ sig → ℕ) (ct : Buf (Elt F) ((Memref.whole cc0_scratch2).view.loc (c : Thread nD τ)))
      (a : Buf (Elt F) ((Memref.whole cc0_scratch3).view.loc (c : Thread nD τ))) (W : Waits sig Unit) (Kt : PUnit → sProp 𝕄),
    iprop((opened (filled wq wo) K c ∗ slots c ∗ owes (c : Thread nD τ) (O₀ c) W
      ∗ pt c (Memref.whole cc0_stg0_0) x ∗ pt c (Memref.whole cc0_stg1_0) (wq c) ∗ pt c (Memref.whole cc0_stg2_0) kf ∗ pt c (Memref.whole cc0_stg3_0) vf
      ∗ pt c (Memref.whole cc0_stg4_0) (wo c) ∗ pt c (Memref.whole cc0_stg5_0) o ∗ pt c (Memref.whole cc0_scratch2) ct ∗ pt c (Memref.whole cc0_scratch3) a)
      ∗ ((∃ g1 h1 g2 h2 g3 h3 g4 h4 g5 h5 g6 h6 g7 h7, ended c x (wq c) kf vf (wo c) (R g1 h1 g2 h2 g3 h3 g4 h4 g5 h5 g6 h6 g7 h7)) -∗ Kt ⟨⟩))
    ⊢ wp frame (wpE (Ix := Unit) (Name := ℕ) (U := UU) (Lvl := ℕ) defs₀ Variants.none (c : Thread nD τ) none) Set.univ
      (cc0_body (F := F) (Memref.whole cc0_stg0_0) (hstage0_0 0) (Memref.whole cc0_stg1_0) (hstage0_1 0) (Memref.whole cc0_stg2_0) (hstage0_2 0)
        (Memref.whole cc0_stg3_0) (hstage0_3 0) (Memref.whole cc0_stg4_0) (hstage0_4 0) (Memref.whole cc0_stg5_0) (hstage0_5 0)
        (Memref.whole cc0_scratch0) (Memref.isWhole_whole _) (Memref.whole cc0_scratch1) (Memref.isWhole_whole _)
        (Memref.whole cc0_scratch2) (Memref.isWhole_whole _) (Memref.whole cc0_scratch3) (Memref.isWhole_whole _) cc0_scratch4 cc0_scratch5 cc0_scoped0) Kt} := by
  refine ⟨?_, fun K ct a W Kt => ?run⟩
  case run =>
    unfold opened slots seven peerInv peerOpen peerTok peerPos peerCred
    rw [O₀, oBar_eq]
    iintro ⟨⟨⟨⟨⟨#HIb, #HIs, #Hrs, #Hlev⟩,
        ⟨⟨⟨#HI1b, #HI1s⟩, ⟨#HI1r, #HI1r'⟩, ⟨#HS1, #HS1'⟩, ⟨#HR1, #HR1'⟩, #Hb1⟩,
          ⟨⟨#HI2b, #HI2s⟩, ⟨#HI2r, #HI2r'⟩, ⟨#HS2, #HS2'⟩, ⟨#HR2, #HR2'⟩, #Hb2⟩,
          ⟨⟨#HI3b, #HI3s⟩, ⟨#HI3r, #HI3r'⟩, ⟨#HS3, #HS3'⟩, ⟨#HR3, #HR3'⟩, #Hb3⟩,
          ⟨⟨#HI4b, #HI4s⟩, ⟨#HI4r, #HI4r'⟩, ⟨#HS4, #HS4'⟩, ⟨#HR4, #HR4'⟩, #Hb4⟩,
          ⟨⟨#HI5b, #HI5s⟩, ⟨#HI5r, #HI5r'⟩, ⟨#HS5, #HS5'⟩, ⟨#HR5, #HR5'⟩, #Hb5⟩,
          ⟨⟨#HI6b, #HI6s⟩, ⟨#HI6r, #HI6r'⟩, ⟨#HS6, #HS6'⟩, ⟨#HR6, #HR6'⟩, #Hb6⟩,
          ⟨⟨#HI7b, #HI7s⟩, ⟨#HI7r, #HI7r'⟩, ⟨#HS7, #HS7'⟩, ⟨#HR7, #HR7'⟩, #Hb7⟩⟩,
        ⟨⟨⟨#rs1, #rs1'⟩, ⟨#rr1, #rr1'⟩⟩, ⟨⟨#rs2, #rs2'⟩, ⟨#rr2, #rr2'⟩⟩, ⟨⟨#rs3, #rs3'⟩, ⟨#rr3, #rr3'⟩⟩, ⟨⟨#rs4, #rs4'⟩, ⟨#rr4, #rr4'⟩⟩,
          ⟨⟨#rs5, #rs5'⟩, ⟨#rr5, #rr5'⟩⟩, ⟨⟨#rs6, #rs6'⟩, ⟨#rr6, #rr6'⟩⟩, ⟨⟨#rs7, #rs7'⟩, ⟨#rr7, #rr7'⟩⟩⟩⟩,
        ⟨HatB, HatS, HcB, HcS⟩,
        ⟨⟨⟨T1b, T1s⟩, ⟨T1r, T1r'⟩, ⟨T1d, T1d'⟩⟩, ⟨⟨T2b, T2s⟩, ⟨T2r, T2r'⟩, ⟨T2d, T2d'⟩⟩, ⟨⟨T3b, T3s⟩, ⟨T3r, T3r'⟩, ⟨T3d, T3d'⟩⟩,
          ⟨⟨T4b, T4s⟩, ⟨T4r, T4r'⟩, ⟨T4d, T4d'⟩⟩, ⟨⟨T5b, T5s⟩, ⟨T5r, T5r'⟩, ⟨T5d, T5d'⟩⟩, ⟨⟨T6b, T6s⟩, ⟨T6r, T6r'⟩, ⟨T6d, T6d'⟩⟩,
          ⟨⟨T7b, T7s⟩, ⟨T7r, T7r'⟩, ⟨T7d, T7d'⟩⟩⟩,
        ⟨⟨⟨P1d, P1d'⟩, ⟨P1r, P1r'⟩⟩, ⟨⟨P2d, P2d'⟩, ⟨P2r, P2r'⟩⟩, ⟨⟨P3d, P3d'⟩, ⟨P3r, P3r'⟩⟩, ⟨⟨P4d, P4d'⟩, ⟨P4r, P4r'⟩⟩,
          ⟨⟨P5d, P5d'⟩, ⟨P5r, P5r'⟩⟩, ⟨⟨P6d, P6d'⟩, ⟨P6r, P6r'⟩⟩, ⟨⟨P7d, P7d'⟩, ⟨P7r, P7r'⟩⟩⟩,
        ⟨⟨C1, C1'⟩, ⟨C2, C2'⟩, ⟨C3, C3'⟩, ⟨C4, C4'⟩, ⟨C5, C5'⟩, ⟨C6, C6'⟩, ⟨C7, C7'⟩⟩⟩,
      ⟨Q0, Q1, Q2, Q3,
        Q4, Q5, Q6, Q7⟩,
      HO, Hx, Hwq, Hkf, Hvf, Hwo, Ho, Hct, Ha⟩, Hk⟩
    rw [cc0_body_eq_skeleton]; unfold cc0_body_skel
    ihave #Hmb := (mayWait (F := F) c (.reg barS) (((above_sec c).mono (by decide)).add (above_recv c)) (show lv (barCell c) () < 2 by rw [lv_bar]; decide)) $$ Hlev
    sl_exec
    ihave HatB_pay1 := (Entails.of_eq (barGiven_eq (F := F) c)) $$ HatB_pay1
    unfold barGiven
    icases HatB_pay1 with ⟨⟨D7, #dr7, #dr7', #ds7⟩, ⟨D6, #dr6, #dr6', #ds6⟩, ⟨D5, #dr5, #dr5', #ds5⟩, ⟨D4, #dr4, #dr4', #ds4⟩, ⟨D3, #dr3, #dr3', #ds3⟩,
      ⟨D2, #dr2, #dr2', #ds2⟩, ⟨D1, #dr1, #dr1', #ds1⟩⟩
    ihave Q0 := (Entails.of_eq (slotAny_raw (F := F) c 0 _)) $$ Q0
    icases Q0 with ⟨⟨%fq0, Hq⟩, ⟨%fo0, Hw⟩⟩
    sl_exec
    have hq : (ptQ c 0 (by decide) fullShare (run.sl.Hq_w1 c wq fq0) : sProp 𝕄) = ptQ c 0 (by decide) fullShare ((filled wq wo).q c) := fillQ c wq wo fq0 _ _ _ _ _
    have hw : (ptO c 0 (by decide) fullShare (run.sl.Hw_w2 c wo fo0) : sProp 𝕄) = ptO c 0 (by decide) fullShare ((filled wq wo).o c) := fillO c wq wo fo0 _ _ _ _ _
    ihave Hq := (Entails.of_eq (hq.trans (sharesQ c _ _))) $$ Hq
    ihave Hw := (Entails.of_eq (hw.trans (sharesO c _ _))) $$ Hw
    icases Hq with ⟨q0, q1, q2, q3, q4, q5, q6, q7⟩
    icases Hw with ⟨o0, o1, o2, o3, o4, o5, o6, o7⟩
    rw [oRecv_eq]
    ihave D1 := (Entails.of_eq (slotAny_raw (F := F) (fw c 1) 1 _)) $$ D1
    icases D1 with ⟨⟨%gq1, Dq1⟩, ⟨%go1, Do1⟩⟩
    have p := dev8 c; have p' := dev9 c
    sl_exec
    clear p p'
    ihave D2 := (Entails.of_eq (slotAny_raw (F := F) (fw c 2) 2 _)) $$ D2
    icases D2 with ⟨⟨%gq2, Dq2⟩, ⟨%go2, Do2⟩⟩
    have p := dev10 c; have p' := dev11 c
    sl_exec
    clear p p'
    ihave D3 := (Entails.of_eq (slotAny_raw (F := F) (fw c 3) 3 _)) $$ D3
    icases D3 with ⟨⟨%gq3, Dq3⟩, ⟨%go3, Do3⟩⟩
    have p := dev12 c; have p' := dev13 c
    sl_exec
    clear p p'
    ihave D4 := (Entails.of_eq (slotAny_raw (F := F) (fw c 4) 4 _)) $$ D4
    icases D4 with ⟨⟨%gq4, Dq4⟩, ⟨%go4, Do4⟩⟩
    have p := dev14 c; have p' := dev15 c
    sl_exec
    clear p p'
    ihave D5 := (Entails.of_eq (slotAny_raw (F := F) (fw c 5) 5 _)) $$ D5
    icases D5 with ⟨⟨%gq5, Dq5⟩, ⟨%go5, Do5⟩⟩
    have p := dev16 c; have p' := dev17 c
    sl_exec
    clear p p'
    ihave D6 := (Entails.of_eq (slotAny_raw (F := F) (fw c 6) 6 _)) $$ D6
    icases D6 with ⟨⟨%gq6, Dq6⟩, ⟨%go6, Do6⟩⟩
    have p := dev18 c; have p' := dev19 c
    sl_exec
    clear p p'
    ihave D7 := (Entails.of_eq (slotAny_raw (F := F) (fw c 7) 7 _)) $$ D7
    icases D7 with ⟨⟨%gq7, Dq7⟩, ⟨%go7, Do7⟩⟩
    have p := dev20 c; have p' := dev21 c
    ihave #Hm1 := (mayWaitDma (F := F) c (recvS 0 0)) $$ Hlev
    ihave #Hm1' := (mayWaitDma (F := F) c (recvS 0 1)) $$ Hlev
    ihave #Hm2 := (mayWaitDma (F := F) c (recvS 1 0)) $$ Hlev
    ihave #Hm2' := (mayWaitDma (F := F) c (recvS 1 1)) $$ Hlev
    ihave #Hm3 := (mayWaitDma (F := F) c (recvS 2 0)) $$ Hlev
    ihave #Hm3' := (mayWaitDma (F := F) c (recvS 2 1)) $$ Hlev
    ihave #Hm4 := (mayWaitDma (F := F) c (recvS 3 0)) $$ Hlev
    ihave #Hm4' := (mayWaitDma (F := F) c (recvS 3 1)) $$ Hlev
    ihave #Hm5 := (mayWaitDma (F := F) c (recvS 4 0)) $$ Hlev
    ihave #Hm5' := (mayWaitDma (F := F) c (recvS 4 1)) $$ Hlev
    ihave #Hm6 := (mayWaitDma (F := F) c (recvS 5 0)) $$ Hlev
    ihave #Hm6' := (mayWaitDma (F := F) c (recvS 5 1)) $$ Hlev
    ihave #Hm7 := (mayWaitDma (F := F) c (recvS 6 0)) $$ Hlev
    ihave #Hm7' := (mayWaitDma (F := F) c (recvS 6 1)) $$ Hlev
    ihave #Hn1 := (mayWaitDma (F := F) c (sendS 0 0)) $$ Hlev
    ihave #Hn1' := (mayWaitDma (F := F) c (sendS 0 1)) $$ Hlev
    ihave #Hn2 := (mayWaitDma (F := F) c (sendS 1 0)) $$ Hlev
    ihave #Hn2' := (mayWaitDma (F := F) c (sendS 1 1)) $$ Hlev
    ihave #Hn3 := (mayWaitDma (F := F) c (sendS 2 0)) $$ Hlev
    ihave #Hn3' := (mayWaitDma (F := F) c (sendS 2 1)) $$ Hlev
    ihave #Hn4 := (mayWaitDma (F := F) c (sendS 3 0)) $$ Hlev
    ihave #Hn4' := (mayWaitDma (F := F) c (sendS 3 1)) $$ Hlev
    ihave #Hn5 := (mayWaitDma (F := F) c (sendS 4 0)) $$ Hlev
    ihave #Hn5' := (mayWaitDma (F := F) c (sendS 4 1)) $$ Hlev
    ihave #Hn6 := (mayWaitDma (F := F) c (sendS 5 0)) $$ Hlev
    ihave #Hn6' := (mayWaitDma (F := F) c (sendS 5 1)) $$ Hlev
    ihave #Hn7 := (mayWaitDma (F := F) c (sendS 6 0)) $$ Hlev
    ihave #Hn7' := (mayWaitDma (F := F) c (sendS 6 1)) $$ Hlev
    sl_exec
    clear p p'
    rw [oSec_eq]
    sl_exec
    sl_step
    iapply Hk
    iexists P1r_pay1_v; iexists P1r'_pay1_v
    iexists P2r_pay1_v; iexists P2r'_pay1_v
    iexists P3r_pay1_v; iexists P3r'_pay1_v
    iexists P4r_pay1_v; iexists P4r'_pay1_v
    iexists P5r_pay1_v; iexists P5r'_pay1_v
    iexists P6r_pay1_v; iexists P6r'_pay1_v
    iexists P7r_pay1_v; iexists P7r'_pay1_v
    unfold ended slots seven donePos
    isplitl [q0 o0 P1d_pay1 P1d'_pay1 P1r_pay1 P1r'_pay1 P1d P1d' P1r P1r' P2d_pay1 P2d'_pay1 P2r_pay1 P2r'_pay1 P2d P2d' P2r P2r' P3d_pay1 P3d'_pay1 P3r_pay1 P3r'_pay1 P3d P3d' P3r P3r' P4d_pay1 P4d'_pay1 P4r_pay1 P4r'_pay1 P4d P4d' P4r P4r' P5d_pay1 P5d'_pay1 P5r_pay1 P5r'_pay1 P5d P5d' P5r P5r' P6d_pay1 P6d'_pay1 P6r_pay1 P6r'_pay1 P6d P6d' P6r P6r' P7d_pay1 P7d'_pay1 P7r_pay1 P7r'_pay1 P7d P7d' P7r P7r' HatB HatS HO]
    · isplitl [q0 o0 P1d_pay1 P1d'_pay1 P1r_pay1 P1r'_pay1 P2d_pay1 P2d'_pay1 P2r_pay1 P2r'_pay1 P3d_pay1 P3d'_pay1 P3r_pay1 P3r'_pay1 P4d_pay1 P4d'_pay1 P4r_pay1 P4r'_pay1 P5d_pay1 P5d'_pay1 P5r_pay1 P5r'_pay1 P6d_pay1 P6d'_pay1 P6r_pay1 P6r'_pay1 P7d_pay1 P7d'_pay1 P7r_pay1 P7r'_pay1]
      · isplitl [q0 o0 P1d_pay1 P1d'_pay1 P2d_pay1 P2d'_pay1 P3d_pay1 P3d'_pay1 P4d_pay1 P4d'_pay1 P5d_pay1 P5d'_pay1 P6d_pay1 P6d'_pay1 P7d_pay1 P7d'_pay1]
        · iapply (shared_slot0 (F := F) c)
          isplitl [q0 P1d_pay1 P2d_pay1 P3d_pay1 P4d_pay1 P5d_pay1 P6d_pay1 P7d_pay1]
          · isplitl [q0]
            · iexact q0
            isplitl [P1d_pay1]
            · iexact P1d_pay1
            isplitl [P2d_pay1]
            · iexact P2d_pay1
            isplitl [P3d_pay1]
            · iexact P3d_pay1
            isplitl [P4d_pay1]
            · iexact P4d_pay1
            isplitl [P5d_pay1]
            · iexact P5d_pay1
            isplitl [P6d_pay1]
            · iexact P6d_pay1
            iexact P7d_pay1
          · isplitl [o0]
            · iexact o0
            isplitl [P1d'_pay1]
            · iexact P1d'_pay1
            isplitl [P2d'_pay1]
            · iexact P2d'_pay1
            isplitl [P3d'_pay1]
            · iexact P3d'_pay1
            isplitl [P4d'_pay1]
            · iexact P4d'_pay1
            isplitl [P5d'_pay1]
            · iexact P5d'_pay1
            isplitl [P6d'_pay1]
            · iexact P6d'_pay1
            iexact P7d'_pay1
        isplitl [P1r_pay1 P1r'_pay1]
        · iapply (slot_of (F := F) c)
          isplitl [P1r_pay1]
          · iexact P1r_pay1
          · iexact P1r'_pay1
        isplitl [P2r_pay1 P2r'_pay1]
        · iapply (slot_of (F := F) c)
          isplitl [P2r_pay1]
          · iexact P2r_pay1
          · iexact P2r'_pay1
        isplitl [P3r_pay1 P3r'_pay1]
        · iapply (slot_of (F := F) c)
          isplitl [P3r_pay1]
          · iexact P3r_pay1
          · iexact P3r'_pay1
        isplitl [P4r_pay1 P4r'_pay1]
        · iapply (slot_of (F := F) c)
          isplitl [P4r_pay1]
          · iexact P4r_pay1
          · iexact P4r'_pay1
        isplitl [P5r_pay1 P5r'_pay1]
        · iapply (slot_of (F := F) c)
          isplitl [P5r_pay1]
          · iexact P5r_pay1
          · iexact P5r'_pay1
        isplitl [P6r_pay1 P6r'_pay1]
        · iapply (slot_of (F := F) c)
          isplitl [P6r_pay1]
          · iexact P6r_pay1
          · iexact P6r'_pay1
        iapply (slot_of (F := F) c)
        isplitl [P7r_pay1]
        · iexact P7r_pay1
        · iexact P7r'_pay1
      isplitl [HatB HatS]
      · isplitl [HatB]
        · iexact HatB
        · iexact HatS
      isplitr [HO]
      · isplitl [P1d P1d' P1r P1r']
        · isplitl [P1d P1d']
          · isplitl [P1d]
            · iexact P1d
            · iexact P1d'
          · isplitl [P1r]
            · iexact P1r
            · iexact P1r'
        isplitl [P2d P2d' P2r P2r']
        · isplitl [P2d P2d']
          · isplitl [P2d]
            · iexact P2d
            · iexact P2d'
          · isplitl [P2r]
            · iexact P2r
            · iexact P2r'
        isplitl [P3d P3d' P3r P3r']
        · isplitl [P3d P3d']
          · isplitl [P3d]
            · iexact P3d
            · iexact P3d'
          · isplitl [P3r]
            · iexact P3r
            · iexact P3r'
        isplitl [P4d P4d' P4r P4r']
        · isplitl [P4d P4d']
          · isplitl [P4d]
            · iexact P4d
            · iexact P4d'
          · isplitl [P4r]
            · iexact P4r
            · iexact P4r'
        isplitl [P5d P5d' P5r P5r']
        · isplitl [P5d P5d']
          · isplitl [P5d]
            · iexact P5d
            · iexact P5d'
          · isplitl [P5r]
            · iexact P5r
            · iexact P5r'
        isplitl [P6d P6d' P6r P6r']
        · isplitl [P6d P6d']
          · isplitl [P6d]
            · iexact P6d
            · iexact P6d'
          · isplitl [P6r]
            · iexact P6r
            · iexact P6r'
        isplitl [P7d P7d']
        · isplitl [P7d]
          · iexact P7d
          · iexact P7d'
        · isplitl [P7r]
          · iexact P7r
          · iexact P7r'
      · iexists _; iexact HO
    isplitl [Hx Hwq Hkf Hvf Hwo Ho]
    · isplitl [Hx]
      · iexact Hx
      isplitl [Hwq]
      · iexact Hwq
      isplitl [Hkf]
      · iexact Hkf
      isplitl [Hvf]
      · iexact Hvf
      isplitl [Hwo]
      · iexact Hwo
      iexact Ho
    isplitl [Hct]
    · iexists _; iexact Hct
    iexists _; iexact Ha

end Cert.KernelIdeal.Talk
-- ==== Proof.KernelIdeal.Steps.lean ====
/-
  The value the kernel leaves, step by step: what each of the eight steps adds, as the functions of Proof.KernelIdeal.Hop of the weights that landed in
  the step's slot.
-/
module

public import proofs.«01_k».proof.Proof.KernelIdeal.Hop
public import proofs.«01_k».proof.Proof.KernelIdeal.Run
public import Idealize.ShloMosaic.Lib.VecWindow

@[expose] public section

noncomputable section

namespace Cert.KernelIdeal.Talk

open Cert.KernelIdeal Cert.KernelIdeal.Gen
open Idealize.ShloMosaic Idealize.ShloMosaic.TcCoe
open Idealize.ShloMosaic.ValueIdx

variable {F : FTy → Type} [FloatOps F] [Named F]

/-- The device's tokens as rows of a matrix. -/
def rowsX (x : Vec F S2x128x512 .bf16) : FVec F S256x512 .bf16 :=
  shapeCast S256x512 (shapeCast S2x128x512 (View.readAt (Elt F) (Memref.whole cc0_stg0_0).view
    (Rect.unit (s := S2x128x512) ![0, 0, 0] S2x128x512.size inb_S2x128x512_S2x128x512_0_0_0).toLoadRect x) shapeCasts_S2x128x512_S2x128x512) shapeCasts_S2x128x512_S256x512
/-- The four heads' keys (or values) a step reads, of batch 0 and of batch 1. -/
def kAt0 (c : Dev nD) (h : Fin 8) (f : Vec F S2x128x2048 .bf16) : Vec F S1x128x256 .bf16 :=
  View.readAt (Elt F) (Memref.whole cc0_stg2_0).view (Rect.unit (s := S2x128x2048) (k0_off1 c (BitVec.ofNat 32 h.val)) S1x128x256.size (k0_off1_inb c h)).toLoadRect f
def kAt1 (c : Dev nD) (h : Fin 8) (f : Vec F S2x128x2048 .bf16) : Vec F S1x128x256 .bf16 :=
  View.readAt (Elt F) (Memref.whole cc0_stg2_0).view (Rect.unit (s := S2x128x2048) (k0_off2 c (BitVec.ofNat 32 h.val)) S1x128x256.size (k0_off2_inb c h)).toLoadRect f
def vAt0 (c : Dev nD) (h : Fin 8) (f : Vec F S2x128x2048 .bf16) : Vec F S1x128x256 .bf16 :=
  View.readAt (Elt F) (Memref.whole cc0_stg3_0).view (Rect.unit (s := S2x128x2048) (k0_off1 c (BitVec.ofNat 32 h.val)) S1x128x256.size (k0_off1_inb c h)).toLoadRect f
def vAt1 (c : Dev nD) (h : Fin 8) (f : Vec F S2x128x2048 .bf16) : Vec F S1x128x256 .bf16 :=
  View.readAt (Elt F) (Memref.whole cc0_stg3_0).view (Rect.unit (s := S2x128x2048) (k0_off2 c (BitVec.ofNat 32 h.val)) S1x128x256.size (k0_off2_inb c h)).toLoadRect f
/-- Slot 0's query and output weights, and those that landed in slot `h` from the device `b` places after. -/
def slotReadQ (f : BufQ F) (o : ℕ) (h : o < 8) : Vec F S1x512x256 .bf16 :=
  View.readAt (Elt F) (Memref.whole cc0_scratch0).view (Rect.unit (s := S8x512x256) ![o, 0, 0] S1x512x256.size (inbQ o h)).toLoadRect f
def slotReadO (f : BufO F) (o : ℕ) (h : o < 8) : Vec F S1x256x512 .bf16 :=
  View.readAt (Elt F) (Memref.whole cc0_scratch1).view (Rect.unit (s := S8x256x512) ![o, 0, 0] S1x256x512.size (inbO o h)).toLoadRect f
def landedQ (g f : BufQ F) (o : ℕ) (h : o < 8) : BufQ F :=
  View.write (Elt F) (slotQ o h).view g (View.read (Elt F) (slotQ 0 (by decide)).view f) Finset.univ
def landedO (g f : BufO F) (o : ℕ) (h : o < 8) : BufO F :=
  View.write (Elt F) (slotO o h).view g (View.read (Elt F) (slotO 0 (by decide)).view f) Finset.univ
/-- The queries' buffer as the kernel clears it. -/
def cleared : StoresA F :=
  [⟨Rect.unit (s := S2x512x256) ![0, 0, 0] S2x512x256.size inb_S2x512x256_S2x512x256_0_0_0, shapeCast S2x512x256 (broadcast S2x512x256 (FloatOps.ofBits .bf16 0x0000#16)) shapeCasts_S2x512x256_S2x512x256⟩]

/-- Slot 0 of what a device holds of the query weights. -/
theorem slotReadQ_filled (wq : Dev nD → BufWq F) (wo : Dev nD → BufWo F) (d : Dev nD) :
    slotReadQ ((filled wq wo).q d) 0 (by decide) = fun i : S1x512x256.Idx => wq d (ix2 (i 1) (i 2)) := by
  funext i
  refine congrArg (wq d) ?_
  exact congrArg₂ ix2 (Fin.ext (Nat.zero_add _ |>.trans (Nat.one_mul _))) (Fin.ext (Nat.zero_add _ |>.trans (Nat.one_mul _)))
theorem slotReadO_filled (wq : Dev nD → BufWq F) (wo : Dev nD → BufWo F) (d : Dev nD) :
    slotReadO ((filled wq wo).o d) 0 (by decide) = fun i : S1x256x512.Idx => wo d (ix2 (i 1) (i 2)) := by
  funext i
  refine congrArg (wo d) ?_
  exact congrArg₂ ix2 (Fin.ext (Nat.zero_add _ |>.trans (Nat.one_mul _))) (Fin.ext (Nat.zero_add _ |>.trans (Nat.one_mul _)))
theorem slotQ_read (f : BufQ F) (o : ℕ) (h : o < 8) : View.read (Elt F) (slotQ o h).view f = shapeCast S512x256 (slotReadQ f o h) shapeCasts_S1x512x256_S512x256 := rfl
theorem slotO_read (f : BufO F) (o : ℕ) (h : o < 8) : View.read (Elt F) (slotO o h).view f = shapeCast S256x512 (slotReadO f o h) shapeCasts_S1x256x512_S256x512 := rfl
/-- What is read of a slot is what landed there, whatever the slot held. -/
theorem slotReadQ_landed (g f : BufQ F) (o : ℕ) (h : o < 8) : slotReadQ (landedQ g f o h) o h = slotReadQ f 0 (by decide) := by
  have e : View.read (Elt F) (slotQ o h).view (landedQ g f o h) = View.read (Elt F) (slotQ 0 (by decide)).view f := View.read_write_univ _ _
  rw [slotQ_read, slotQ_read] at e
  funext i
  obtain ⟨z, r, k, rfl⟩ : ∃ (z : Fin 1) (r : Fin 512) (k : Fin 256), i = ix3 z r k := ⟨_, _, _, eq_ix3 i⟩
  have := congrFun e (ix2 r k)
  rw [shapeCast_1ab_ab_apply, shapeCast_1ab_ab_apply] at this
  rwa [Subsingleton.elim z 0]
theorem slotReadO_landed (g f : BufO F) (o : ℕ) (h : o < 8) : slotReadO (landedO g f o h) o h = slotReadO f 0 (by decide) := by
  have e : View.read (Elt F) (slotO o h).view (landedO g f o h) = View.read (Elt F) (slotO 0 (by decide)).view f := View.read_write_univ _ _
  rw [slotO_read, slotO_read] at e
  funext i
  obtain ⟨z, r, k, rfl⟩ : ∃ (z : Fin 1) (r : Fin 256) (k : Fin 512), i = ix3 z r k := ⟨_, _, _, eq_ix3 i⟩
  have := congrFun e (ix2 r k)
  rw [shapeCast_1ab_ab_apply, shapeCast_1ab_ab_apply] at this
  rwa [Subsingleton.elim z 0]
section Acc

variable (x : FVec F S256x512 .bf16) (w : ℕ → Vec F S1x512x256 .bf16) (u : ℕ → Vec F S1x256x512 .bf16) (k₀ v₀ k₁ v₁ : ℕ → Vec F S1x128x256 .bf16)

/-- The queries' stores before step `n`; -/
def accA : ℕ → StoresA F
  | 0 => cleared
  | n + 1 => stepA x (w n) (accA n)
/-- the contexts' stores before step `n`; -/
def accC : ℕ → StoresC F
  | 0 => []
  | n + 1 => stepC x (w n) (k₀ n) (v₀ n) (k₁ n) (v₁ n) (accA x w n) (accC n)
/-- what step `n` adds to the result; -/
def added (n : ℕ) : FVec F S256x512 .f32 := stepV x (w n) (u n) (k₀ n) (v₀ n) (k₁ n) (v₁ n) (accA x w n) (accC x w k₀ v₀ k₁ v₁ n)
/-- and the result after step `n`. -/
def total : ℕ → FVec F S2x128x512 .f32
  | 0 => shapeCast S2x128x512 (added x w u k₀ v₀ k₁ v₁ 0) shapeCasts_S256x512_S2x128x512
  | n + 1 => addf (total n) (shapeCast S2x128x512 (added x w u k₀ v₀ k₁ v₁ (n + 1)) shapeCasts_S256x512_S2x128x512)
end Acc

variable (c : Dev nD) (x : Vec F S2x128x512 .bf16) (wq : Dev nD → BufWq F) (kf vf : Vec F S2x128x2048 .bf16) (wo : Dev nD → BufWo F)

/-- The device whose weights step `n` reads, and those weights. -/
def from_ (c : Dev nD) (n : ℕ) : Dev nD := fw c (8 - n)
def wAt (n : ℕ) : Vec F S1x512x256 .bf16 := fun i : S1x512x256.Idx => wq (from_ c n) (ix2 (i 1) (i 2))
def uAt (n : ℕ) : Vec F S1x256x512 .bf16 := fun i : S1x256x512.Idx => wo (from_ c n) (ix2 (i 1) (i 2))

/-- The block the kernel leaves on device `c`, from its tokens, every device's weights and its keys and values. -/
def out : Vec F S2x128x512 .f32 :=
  total (rowsX x) (wAt c wq) (uAt c wo)
    (fun n => kAt0 c (Fin.ofNat 8 n) kf) (fun n => vAt0 c (Fin.ofNat 8 n) vf) (fun n => kAt1 c (Fin.ofNat 8 n) kf) (fun n => vAt1 c (Fin.ofNat 8 n) vf) 7

theorem slotQ_own (n : ℕ) (hn : n < 8) (g : BufQ F) : slotReadQ (landedQ g ((filled wq wo).q (fw c (8 - n))) n hn) n hn = wAt c wq n :=
  (slotReadQ_landed _ _ n hn).trans (slotReadQ_filled wq wo _)
theorem slotO_own (n : ℕ) (hn : n < 8) (h : BufO F) : slotReadO (landedO h ((filled wq wo).o (fw c (8 - n))) n hn) n hn = uAt c wo n :=
  (slotReadO_landed _ _ n hn).trans (slotReadO_filled wq wo _)
theorem fw_eight (c : Dev nD) : fw c 8 = c := Fin.ext (by
  have := c.isLt
  show (c.val + 8) % 8 = c.val
  unfold nD at *
  omega)

/-- The state of the run after step `n`: the queries' stores and the contexts' are those the functions above say. -/
structure After (n : ℕ) (A : StoresA F) (C : StoresC F) : Prop where
  queries : A = accA (rowsX x) (wAt c wq) (n + 1)
  contexts : C = accC (rowsX x) (wAt c wq) (fun n => kAt0 c (Fin.ofNat 8 n) kf) (fun n => vAt0 c (Fin.ofNat 8 n) vf) (fun n => kAt1 c (Fin.ofNat 8 n) kf) (fun n => vAt1 c (Fin.ofNat 8 n) vf) (n + 1)

variable {c x wq kf vf wo}

/-- A buffer whose last store is a whole one holds its payload, whatever it held before. -/
theorem whole_writes {Val : EltTy → Type} (b : Ref sig .tc) (o : b.ty.Contents Val) {off : Fin b.ty.shape.rank → ℕ} (inb : ∀ a, off a + b.ty.shape.size a ≤ b.ty.shape.size a)
    (w : (Rect.unit off b.ty.shape.size inb).shape.Idx → Val b.ty.elt) (O : List (View.Piece Val b.ty.shape b.ty.elt)) :
    (Memref.whole b).view.writes Val o (⟨Rect.unit off b.ty.shape.size inb, w⟩ :: O) = w :=
  (View.read_whole b _).symm.trans (View.read_writes_full (Memref.whole b).view o inb w O)

theorem result_last (o : Vec F S2x128x512 .f32) (T : FVec F S2x128x512 .f32) (O : List (View.Piece (Elt F) cc0_stg5_0.ty.shape cc0_stg5_0.ty.elt)) :
    (Memref.whole cc0_stg5_0).view.writes (Elt F) o (⟨Rect.unit (s := S2x128x512) ![0, 0, 0] S2x128x512.size inb_S2x128x512_S2x128x512_0_0_0, T⟩ :: O) = T :=
  whole_writes (Val := Elt F) cc0_stg5_0 o _ T O

/-- A load of the whole result reads the last whole store's payload. -/
theorem result_load (T : FVec F S2x128x512 .f32) (O : List (View.Piece (Elt F) cc0_stg5_0.ty.shape cc0_stg5_0.ty.elt)) :
    (Memref.whole cc0_stg5_0).view.readCov (⟨Rect.unit (s := S2x128x512) ![0, 0, 0] S2x128x512.size inb_S2x128x512_S2x128x512_0_0_0, T⟩ :: O)
        (Rect.unit (s := S2x128x512) ![0, 0, 0] S2x128x512.size inb_S2x128x512_S2x128x512_0_0_0).toLoadRect = T :=
  View.readCov_full (Val := Elt F) (s := S2x128x512) (Memref.whole cc0_stg5_0).view _ _ T O

theorem cast_same (T : FVec F S2x128x512 .f32) : shapeCast S2x128x512 T shapeCasts_S2x128x512_S2x128x512 = T := shapeCast_self _ _

theorem ownQ : slotReadQ ((filled wq wo).q c) 0 (by decide) = wAt c wq 0 := by
  rw [slotReadQ_filled]; unfold wAt from_; rw [fw_eight]
theorem ownO : slotReadO ((filled wq wo).o c) 0 (by decide) = uAt c wo 0 := by
  rw [slotReadO_filled]; unfold uAt from_; rw [fw_eight]

theorem After.first {A : StoresA F} {C : StoresC F}
    (hA : A = stepA (rowsX x) (slotReadQ ((filled wq wo).q c) 0 (by decide)) cleared)
    (hC : C = stepC (rowsX x) (slotReadQ ((filled wq wo).q c) 0 (by decide)) (kAt0 c 0 kf) (vAt0 c 0 vf) (kAt1 c 0 kf) (vAt1 c 0 vf) cleared []) :
    After c x wq kf vf 0 A C := by
  rw [ownQ] at hA hC
  exact ⟨hA, hC⟩

theorem After.next {n : ℕ} {A A' : StoresA F} {C C' : StoresC F} (s : After c x wq kf vf n A C) (hn : n + 1 < 8) (g : BufQ F)
    (hA : A' = stepA (rowsX x) (slotReadQ (landedQ g ((filled wq wo).q (fw c (8 - (n + 1)))) (n + 1) hn) (n + 1) hn) A)
    (hC : C' = stepC (rowsX x) (slotReadQ (landedQ g ((filled wq wo).q (fw c (8 - (n + 1)))) (n + 1) hn) (n + 1) hn)
      (kAt0 c (Fin.ofNat 8 (n + 1)) kf) (vAt0 c (Fin.ofNat 8 (n + 1)) vf) (kAt1 c (Fin.ofNat 8 (n + 1)) kf) (vAt1 c (Fin.ofNat 8 (n + 1)) vf) A C) :
    After c x wq kf vf (n + 1) A' C' := by
  rw [slotQ_own] at hA hC
  obtain ⟨rfl, rfl⟩ := s
  exact ⟨hA, hC⟩

/-- What the first step stores in the result. -/
theorem stored_first :
    shapeCast S2x128x512 (stepV (rowsX x) (slotReadQ ((filled wq wo).q c) 0 (by decide)) (slotReadO ((filled wq wo).o c) 0 (by decide)) (kAt0 c 0 kf) (vAt0 c 0 vf) (kAt1 c 0 kf) (vAt1 c 0 vf) cleared []) shapeCasts_S256x512_S2x128x512
      = total (rowsX x) (wAt c wq) (uAt c wo) (fun n => kAt0 c (Fin.ofNat 8 n) kf) (fun n => vAt0 c (Fin.ofNat 8 n) vf) (fun n => kAt1 c (Fin.ofNat 8 n) kf) (fun n => vAt1 c (Fin.ofNat 8 n) vf) 0 := by
  rw [ownQ, ownO]
  rfl
/-- What a later step stores: what the result held and the step's addition. -/
theorem After.stored {n : ℕ} {A : StoresA F} {C : StoresC F} (s : After c x wq kf vf n A C)
    (hn : n + 1 < 8) (g : BufQ F) (h : BufO F) (O : List (View.Piece (Elt F) cc0_stg5_0.ty.shape cc0_stg5_0.ty.elt)) {T : FVec F S2x128x512 .f32}
    (hT : T = total (rowsX x) (wAt c wq) (uAt c wo) (fun n => kAt0 c (Fin.ofNat 8 n) kf) (fun n => vAt0 c (Fin.ofNat 8 n) vf) (fun n => kAt1 c (Fin.ofNat 8 n) kf) (fun n => vAt1 c (Fin.ofNat 8 n) vf) n) :
    addf (shapeCast S2x128x512 ((Memref.whole cc0_stg5_0).view.readCov (⟨Rect.unit (s := S2x128x512) ![0, 0, 0] S2x128x512.size inb_S2x128x512_S2x128x512_0_0_0, T⟩ :: O)
        (Rect.unit (s := S2x128x512) ![0, 0, 0] S2x128x512.size inb_S2x128x512_S2x128x512_0_0_0).toLoadRect) shapeCasts_S2x128x512_S2x128x512)
      (shapeCast S2x128x512 (stepV (rowsX x) (slotReadQ (landedQ g ((filled wq wo).q (fw c (8 - (n + 1)))) (n + 1) hn) (n + 1) hn)
        (slotReadO (landedO h ((filled wq wo).o (fw c (8 - (n + 1)))) (n + 1) hn) (n + 1) hn)
        (kAt0 c (Fin.ofNat 8 (n + 1)) kf) (vAt0 c (Fin.ofNat 8 (n + 1)) vf) (kAt1 c (Fin.ofNat 8 (n + 1)) kf) (vAt1 c (Fin.ofNat 8 (n + 1)) vf) A C) shapeCasts_S256x512_S2x128x512)
      = total (rowsX x) (wAt c wq) (uAt c wo) (fun n => kAt0 c (Fin.ofNat 8 n) kf) (fun n => vAt0 c (Fin.ofNat 8 n) vf) (fun n => kAt1 c (Fin.ofNat 8 n) kf) (fun n => vAt1 c (Fin.ofNat 8 n) vf) (n + 1) := by
  rw [slotQ_own, slotO_own, result_load, cast_same]
  obtain ⟨rfl, rfl⟩ := s
  rw [hT]
  rfl

/-- What the result holds after the steps up to the `n`-th. -/
abbrev sumTo (c : Dev nD) (x : Vec F S2x128x512 .bf16) (wq : Dev nD → BufWq F) (kf vf : Vec F S2x128x2048 .bf16) (wo : Dev nD → BufWo F) (n : ℕ) : FVec F S2x128x512 .f32 :=
  total (rowsX x) (wAt c wq) (uAt c wo) (fun n => kAt0 c (Fin.ofNat 8 n) kf) (fun n => vAt0 c (Fin.ofNat 8 n) vf) (fun n => kAt1 c (Fin.ofNat 8 n) kf) (fun n => vAt1 c (Fin.ofNat 8 n) vf) n

set_option maxHeartbeats 8000000 in
set_option maxRecDepth 20000 in
set_option backward.isDefEq.respectTransparency.types false in
/-- The run leaves that block, whatever the result's buffer and the slots held before. -/
theorem run_eq (o : Vec F S2x128x512 .f32) (g1 : BufQ F) (h1 : BufO F) (g2 : BufQ F) (h2 : BufO F) (g3 : BufQ F) (h3 : BufO F) (g4 : BufQ F) (h4 : BufO F)
    (g5 : BufQ F) (h5 : BufO F) (g6 : BufQ F) (h6 : BufO F) (g7 : BufQ F) (h7 : BufO F) :
    (run c x wq kf vf wo o).1 g1 h1 g2 h2 g3 h3 g4 h4 g5 h5 g6 h6 g7 h7 = out c x wq kf vf wo := by
  have s0 : After c x wq kf vf 0 (run.sl.Ha_9 c x wq wo) (run.sl.Hct_8 c x wq kf vf wo) := .first (wo := wo) rfl rfl
  have s1 : After c x wq kf vf 1 (run.sl.Ha_17 c x wq wo g1) (run.sl.Hct_16 c x wq kf vf wo g1) := s0.next (wo := wo) (by decide) g1 rfl rfl
  have s2 : After c x wq kf vf 2 (run.sl.Ha_25 c x wq wo g1 g2) (run.sl.Hct_24 c x wq kf vf wo g1 g2) := s1.next (wo := wo) (by decide) g2 rfl rfl
  have s3 : After c x wq kf vf 3 (run.sl.Ha_33 c x wq wo g1 g2 g3) (run.sl.Hct_32 c x wq kf vf wo g1 g2 g3) := s2.next (wo := wo) (by decide) g3 rfl rfl
  have s4 : After c x wq kf vf 4 (run.sl.Ha_41 c x wq wo g1 g2 g3 g4) (run.sl.Hct_40 c x wq kf vf wo g1 g2 g3 g4) := s3.next (wo := wo) (by decide) g4 rfl rfl
  have s5 : After c x wq kf vf 5 (run.sl.Ha_49 c x wq wo g1 g2 g3 g4 g5) (run.sl.Hct_48 c x wq kf vf wo g1 g2 g3 g4 g5) := s4.next (wo := wo) (by decide) g5 rfl rfl
  have s6 : After c x wq kf vf 6 (run.sl.Ha_57 c x wq wo g1 g2 g3 g4 g5 g6) (run.sl.Hct_56 c x wq kf vf wo g1 g2 g3 g4 g5 g6) := s5.next (wo := wo) (by decide) g6 rfl rfl
  have t0 : run.sl.v401 c x wq kf vf wo = sumTo c x wq kf vf wo 0 := stored_first
  have t1 : run.sl.v555 c x wq kf vf wo g1 h1 = sumTo c x wq kf vf wo 1 := s0.stored (by decide) g1 h1 _ t0
  have t2 : run.sl.v709 c x wq kf vf wo g1 h1 g2 h2 = sumTo c x wq kf vf wo 2 := s1.stored (by decide) g2 h2 _ t1
  have t3 : run.sl.v863 c x wq kf vf wo g1 h1 g2 h2 g3 h3 = sumTo c x wq kf vf wo 3 := s2.stored (by decide) g3 h3 _ t2
  have t4 : run.sl.v1017 c x wq kf vf wo g1 h1 g2 h2 g3 h3 g4 h4 = sumTo c x wq kf vf wo 4 := s3.stored (by decide) g4 h4 _ t3
  have t5 : run.sl.v1171 c x wq kf vf wo g1 h1 g2 h2 g3 h3 g4 h4 g5 h5 = sumTo c x wq kf vf wo 5 := s4.stored (by decide) g5 h5 _ t4
  have t6 : run.sl.v1325 c x wq kf vf wo g1 h1 g2 h2 g3 h3 g4 h4 g5 h5 g6 h6 = sumTo c x wq kf vf wo 6 := s5.stored (by decide) g6 h6 _ t5
  have t7 : run.sl.v1479 c x wq kf vf wo g1 h1 g2 h2 g3 h3 g4 h4 g5 h5 g6 h6 g7 h7 = sumTo c x wq kf vf wo 7 := s6.stored (by decide) g7 h7 _ t6
  unfold run
  exact (result_last _ _ _).trans t7

end Cert.KernelIdeal.Talk
-- ==== Proof.KernelIdeal.Slots.lean ====
/-
  The two slot buffers whole, cut into their eight slots and joined back, at contents not chosen.
-/
module

public import proofs.«01_k».proof.Proof.KernelIdeal.Start
public import Idealize.ShloMosaic.Lib.Ring.FamCut

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

/-- An element of slot `o` has first coordinate `o`. -/
theorem mem_slotQ (o : ℕ) (h : o < 8) (i : S8x512x256.Idx) (hi : i ∈ (slotQ o h).view.set) : (i 0).val = o := by
  obtain ⟨x, rfl⟩ := View.exists_of_mem_set_slice (v := (Memref.whole cc0_scratch0).view) (r := Rect.unit ![o, 0, 0] S1x512x256.size (inbQ o h)) (by rwa [View.set_reshape] at hi)
  have h0 : (x 0).val < 1 := (x 0).isLt
  show o + 1 * (x 0).val = o
  omega
theorem mem_slotO (o : ℕ) (h : o < 8) (i : S8x256x512.Idx) (hi : i ∈ (slotO o h).view.set) : (i 0).val = o := by
  obtain ⟨x, rfl⟩ := View.exists_of_mem_set_slice (v := (Memref.whole cc0_scratch1).view) (r := Rect.unit ![o, 0, 0] S1x256x512.size (inbO o h)) (by rwa [View.set_reshape] at hi)
  have h0 : (x 0).val < 1 := (x 0).isLt
  show o + 1 * (x 0).val = o
  omega

/-- The slots as families of element sets. -/
abbrev famQ (b : Fin 8) : Finset S8x512x256.Idx := (slotQ b.val b.isLt).view.set
abbrev famO (b : Fin 8) : Finset S8x256x512.Idx := (slotO b.val b.isLt).view.set
theorem famQ_disj (b b' : Fin 8) (h : b ≠ b') : Disjoint (famQ b) (famQ b') :=
  Finset.disjoint_left.mpr fun i hi hi' => h (Fin.ext ((mem_slotQ _ _ i hi).symm.trans (mem_slotQ _ _ i hi')))
theorem famO_disj (b b' : Fin 8) (h : b ≠ b') : Disjoint (famO b) (famO b') :=
  Finset.disjoint_left.mpr fun i hi hi' => h (Fin.ext ((mem_slotO _ _ i hi).symm.trans (mem_slotO _ _ i hi')))

variable (c : Dev nD)

/-- What the slots leave of the two buffers. -/
def slotRest : sProp 𝕄 :=
  iprop((∃ f : BufQ F, ((c : Thread nD τ).loc cc0_scratch0) ↦[Ring.restOf (ℓ := (c : Thread nD τ).loc cc0_scratch0) famQ]{fullShare} f)
    ∗ ∃ f : BufO F, ((c : Thread nD τ).loc cc0_scratch1) ↦[Ring.restOf (ℓ := (c : Thread nD τ).loc cc0_scratch1) famO]{fullShare} f)

theorem slots_eq : (slots c : sProp 𝕄)
    = iprop((bigSep Finset.univ fun b : Fin 8 => iprop(∃ f : BufQ F, ((c : Thread nD τ).loc cc0_scratch0) ↦[famQ b]{fullShare} f))
      ∗ bigSep Finset.univ fun b : Fin 8 => iprop(∃ f : BufO F, ((c : Thread nD τ).loc cc0_scratch1) ↦[famO b]{fullShare} f)) := by
  rw [← bigSep_sep', BI.bigSep_univ_eq_bigSepL [(0 : Fin 8), 1, 2, 3, 4, 5, 6, 7] (by decide) (by decide)]
  unfold slots
  simp only [slotAny_eq]
  rfl

theorem slots_split :
    iprop((∃ f : BufQ F, ((c : Thread nD τ).loc cc0_scratch0) ↦{fullShare} f) ∗ ∃ f : BufO F, ((c : Thread nD τ).loc cc0_scratch1) ↦{fullShare} f)
      ⊢ (iprop(slots c ∗ slotRest c) : sProp 𝕄) := by
  rw [slots_eq]
  unfold slotRest
  iintro ⟨Hq, Ho⟩
  ihave Hq := (Ring.fam_split_ex (ℓ := (c : Thread nD τ).loc cc0_scratch0) famQ famQ_disj) $$ Hq
  ihave Ho := (Ring.fam_split_ex (ℓ := (c : Thread nD τ).loc cc0_scratch1) famO famO_disj) $$ Ho
  icases Hq with ⟨Hq, Rq⟩
  icases Ho with ⟨Ho, Ro⟩
  isplitl [Hq Ho]
  · isplitl [Hq]
    · iexact Hq
    · iexact Ho
  isplitl [Rq]
  · iexact Rq
  · iexact Ro

theorem slots_join (fq : BufQ F) (fo : BufO F) : (iprop(slots c ∗ slotRest c) : sProp 𝕄)
    ⊢ iprop((∃ f : BufQ F, ((c : Thread nD τ).loc cc0_scratch0) ↦{fullShare} f) ∗ ∃ f : BufO F, ((c : Thread nD τ).loc cc0_scratch1) ↦{fullShare} f) := by
  rw [slots_eq]
  unfold slotRest
  iintro ⟨⟨Hq, Ho⟩, Rq, Ro⟩
  isplitl [Hq Rq]
  · iapply (Ring.fam_join (ℓ := (c : Thread nD τ).loc cc0_scratch0) famQ famQ_disj fq)
    isplitl [Hq]
    · iexact Hq
    · iexact Rq
  · iapply (Ring.fam_join (ℓ := (c : Thread nD τ).loc cc0_scratch1) famO famO_disj fo)
    isplitl [Ho]
    · iexact Ho
    · iexact Ro

end Cert.KernelIdeal.Talk
-- ==== Proof.KernelIdeal.Open.lean ====
/-
  The kernel's own semaphores: their cells opened when the kernel starts, from counters at zero, and closed when it ends, the counters at zero
  again.
-/
module

public import proofs.«01_k».proof.Proof.KernelIdeal.Start

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- The kernel's own semaphores: the second barrier's, and per other device two departures and two arrivals. -/
abbrev Own : Type := Unit ⊕ (Fin 7 × Fin 4)
def ownSem : Own → SemLoc sig
  | .inl _ => .reg secS
  | .inr (i, 0) => .dma (sendS i.val 0)
  | .inr (i, 1) => .dma (sendS i.val 1)
  | .inr (i, 2) => .dma (recvS i.val 0)
  | .inr (i, 3) => .dma (recvS i.val 1)

variable (X : Filled F) (K : GSem nD τ sig → ℕ) (c : Dev nD)

/-- Something of each of the four copies' cells towards one other device. -/
def four (Φ : GSem nD τ sig → sProp 𝕄) (i : ℕ) : sProp 𝕄 :=
  iprop((Φ (sendCell c i 0) ∗ Φ (sendCell c i 1)) ∗ (Φ (recvCell c i 0) ∗ Φ (recvCell c i 1)))

theorem pair_up (P Q R S : sProp 𝕄) : iprop(P ∗ Q ∗ R ∗ S) = iprop((P ∗ Q) ∗ (R ∗ S)) := by
  have h1 : iprop(P ∗ Q ∗ R ∗ S) ⊢ iprop((P ∗ Q) ∗ (R ∗ S)) := by
    iintro ⟨H1, H2, H3, H4⟩
    isplitl [H1 H2]
    · isplitl [H1] <;> iassumption
    · isplitl [H3] <;> iassumption
  have h2 : iprop((P ∗ Q) ∗ (R ∗ S)) ⊢ iprop(P ∗ Q ∗ R ∗ S) := by
    iintro ⟨⟨H1, H2⟩, H3, H4⟩
    isplitl [H1]; · iexact H1
    isplitl [H2]; · iexact H2
    isplitl [H3] <;> iassumption
  exact BI.equiv_iff.mp ⟨h1, h2⟩

theorem own_eq (Φ : GSem nD τ sig → sProp 𝕄) :
    (bigSep Finset.univ fun k : Own => Φ ((c : Thread nD τ), ownSem k)) = iprop(Φ (secCell c) ∗ seven fun _ i => four c Φ i) := by
  rw [BI.bigSep_univ_sum, BI.bigSep_univ_prod, seven_eq]
  have h1 : (bigSep Finset.univ fun k : Unit => Φ ((c : Thread nD τ), ownSem (.inl k))) = Φ (secCell c) :=
    BI.bigSep_univ_eq_bigSepL [()] (by decide) (by decide) _
  have h2 (i : Fin 7) : (bigSep Finset.univ fun k : Fin 4 => Φ ((c : Thread nD τ), ownSem (.inr (i, k)))) = four c Φ i.val := by
    rw [BI.bigSep_univ_eq_bigSepL [(0 : Fin 4), 1, 2, 3] (by decide) (by decide)]
    show iprop(Φ (sendCell c i.val 0) ∗ Φ (sendCell c i.val 1) ∗ Φ (recvCell c i.val 0) ∗ Φ (recvCell c i.val 1)) = _
    unfold four
    exact pair_up _ _ _ _
  exact congrArg₂ BI.sep h1 (BI.bigSep_congr fun i _ => h2 i)

/-- What the launch leaves a device for its kernel. -/
def ghost : sProp 𝕄 :=
  iprop(((cellInv ER (sched X) (K (barCell c)) (barCell c) ∗ cellInv ER (sched X) (K (secCell c)) (secCell c)) ∗ seven (peerInv X K c))
    ∗ (atPos ER (barCell c) 0 ∅ 0 ∗ openTok ER (secCell c) ∗ seven fun _ i => four (F := F) c (fun g => openTok ER g) i)
    ∗ (cred (tallyAt (barCell c) () 7) ∗ cred (tallyAt (secCell c) () 7) ∗ seven (fun _ i => peerCred (F := F) c i))
    ∗ seven (peerTok (F := F) c))

theorem open_one (g : GSem nD τ sig) (κ : ℕ) :
    iprop(cellInv ER (sched X) κ g ∗ openTok ER g ∗ semVal g 0) ⊢ (|={Set.univ}=> iprop(atPos ER g 0 ∅ 0 ∗ reached ER g 0) : sProp 𝕄) := by
  iintro ⟨#HI, Ho, Hs⟩
  imod (Rounds.cell_open ER (sched X) (g := g) (Set.mem_univ κ)) $$ [Ho Hs] with ⟨HA, #HR⟩
  · isplitr; · iexact HI
    isplitl [Ho] <;> iassumption
  imodintro
  isplitl [HA]; · iexact HA
  iexact HR
theorem close_one (g : GSem nD τ sig) (κ : ℕ) :
    iprop(cellInv ER (sched X) κ g ∗ atPos ER g 1 ∅ 0) ⊢ (|={Set.univ}=> semVal g 0 : sProp 𝕄) :=
  Rounds.cell_close ER (sched X) (R := 1) (Set.mem_univ κ) id fun r hr => duties_later X g r hr

theorem open_peer (o i : ℕ) :
    iprop(peerInv X K c o i ∗ four c (fun g => openTok ER g) i ∗ four c (fun g => semVal g 0) i)
      ⊢ (|={Set.univ}=> iprop(peerPos c i ∗ peerOpen c i) : sProp 𝕄) := by
  unfold peerInv four peerPos peerOpen
  iintro ⟨⟨-, -, ⟨#I1, #I2⟩, ⟨#I3, #I4⟩, -⟩, ⟨⟨O1, O2⟩, ⟨O3, O4⟩⟩, ⟨⟨S1, S2⟩, ⟨S3, S4⟩⟩⟩
  imod (open_one X (sendCell c i 0) (K (sendCell c i 0))) $$ [O1 S1] with ⟨A1, R1⟩
  · isplitr; · iexact I1
    isplitl [O1] <;> iassumption
  imod (open_one X (sendCell c i 1) (K (sendCell c i 1))) $$ [O2 S2] with ⟨A2, R2⟩
  · isplitr; · iexact I2
    isplitl [O2] <;> iassumption
  imod (open_one X (recvCell c i 0) (K (recvCell c i 0))) $$ [O3 S3] with ⟨A3, R3⟩
  · isplitr; · iexact I3
    isplitl [O3] <;> iassumption
  imod (open_one X (recvCell c i 1) (K (recvCell c i 1))) $$ [O4 S4] with ⟨A4, R4⟩
  · isplitr; · iexact I4
    isplitl [O4] <;> iassumption
  imodintro
  isplitl [A1 A2 A3 A4]
  · isplitl [A1 A2]
    · isplitl [A1] <;> iassumption
    · isplitl [A3] <;> iassumption
  · isplitl [R1 R2]
    · isplitl [R1] <;> iassumption
    · isplitl [R3] <;> iassumption
theorem close_peer (o i : ℕ) :
    iprop(peerInv X K c o i ∗ donePos c i) ⊢ (|={Set.univ}=> four c (fun g => semVal g 0) i : sProp 𝕄) := by
  unfold peerInv four donePos
  iintro ⟨⟨-, -, ⟨#I1, #I2⟩, ⟨#I3, #I4⟩, -⟩, ⟨⟨A1, A2⟩, ⟨A3, A4⟩⟩⟩
  imod (close_one X (sendCell c i 0) (K (sendCell c i 0))) $$ [A1] with S1
  · isplitr; · iexact I1
    iexact A1
  imod (close_one X (sendCell c i 1) (K (sendCell c i 1))) $$ [A2] with S2
  · isplitr; · iexact I2
    iexact A2
  imod (close_one X (recvCell c i 0) (K (recvCell c i 0))) $$ [A3] with S3
  · isplitr; · iexact I3
    iexact A3
  imod (close_one X (recvCell c i 1) (K (recvCell c i 1))) $$ [A4] with S4
  · isplitr; · iexact I4
    iexact A4
  imodintro
  isplitl [S1 S2]
  · isplitl [S1] <;> iassumption
  · isplitl [S3] <;> iassumption

theorem seven_sep (Φ Ψ : ℕ → ℕ → sProp 𝕄) : seven (fun o i => iprop(Φ o i ∗ Ψ o i)) = iprop(seven Φ ∗ seven Ψ) := by
  rw [seven_eq, seven_eq, seven_eq, bigSep_sep']
theorem seven_fupd (Φ Ψ : ℕ → ℕ → sProp 𝕄) (h : ∀ o i, Φ o i ⊢ |={Set.univ}=> Ψ o i) : seven Φ ⊢ |={Set.univ}=> seven Ψ := by
  rw [seven_eq, seven_eq]
  exact (BI.bigSep_mono fun i _ => h _ _).trans (bigSep_fupd _ _)

/-- The kernel's start: the counters at zero open the cells. -/
theorem open_all : iprop(ghost X K c ∗ (semVal (secCell c) 0 ∗ seven fun _ i => four c (fun g => semVal g 0) i) ∗ levAts L lv)
    ⊢ (|={Set.univ}=> opened X K c : sProp 𝕄) := by
  unfold ghost opened
  iintro ⟨⟨⟨⟨#HB, #HS⟩, #HP⟩, ⟨AB, OS, O7⟩, ⟨CB, CS, C7⟩, HT⟩, ⟨VS, V7⟩, #HL⟩
  imod (open_one X (secCell c) (K (secCell c))) $$ [OS VS] with ⟨AS, RS⟩
  · isplitr; · iexact HS
    isplitl [OS] <;> iassumption
  imod (seven_fupd (fun o i => iprop(peerInv X K c o i ∗ four c (fun g => openTok ER g) i ∗ four c (fun g => semVal g 0) i))
    (fun _ i => iprop(peerPos c i ∗ peerOpen c i)) (open_peer X K c)) $$ [O7 V7] with H7
  · rw [seven_sep, seven_sep]
    isplitr; · iexact HP
    isplitl [O7] <;> iassumption
  ihave H7 := (Entails.of_eq (seven_sep (fun _ i => peerPos (F := F) c i) (fun _ i => peerOpen c i))) $$ H7
  icases H7 with ⟨A7, #R7⟩
  imodintro
  isplitl [RS]
  · isplitl [RS]
    · isplitr; · iexact HB
      isplitr; · iexact HS
      isplitl [RS]; · iexact RS
      iexact HL
    isplitr; · iexact HP
    iexact R7
  isplitl [AB AS CB CS]
  · isplitl [AB]; · iexact AB
    isplitl [AS]; · iexact AS
    isplitl [CB] <;> iassumption
  isplitl [HT]; · iexact HT
  isplitl [A7] <;> iassumption

/-- The kernel's end: the cells' one round past, they close with their counters at zero. -/
theorem close_all :
    iprop((cellInv ER (sched X) (K (barCell c)) (barCell c) ∗ cellInv ER (sched X) (K (secCell c)) (secCell c) ∗ seven (peerInv X K c))
      ∗ (atPos ER (barCell c) 1 ∅ 0 ∗ atPos ER (secCell c) 1 ∅ 0) ∗ seven (fun _ i => donePos c i))
    ⊢ (|={Set.univ}=> iprop(semVal (barCell c) 0 ∗ semVal (secCell c) 0 ∗ seven fun _ i => four c (fun g => semVal g 0) i) : sProp 𝕄) := by
  iintro ⟨⟨#HB, #HS, #HP⟩, ⟨AB, AS⟩, A7⟩
  imod (close_one X (barCell c) (K (barCell c))) $$ [AB] with VB
  · isplitr; · iexact HB
    iexact AB
  imod (close_one X (secCell c) (K (secCell c))) $$ [AS] with VS
  · isplitr; · iexact HS
    iexact AS
  imod (seven_fupd (fun o i => iprop(peerInv X K c o i ∗ donePos c i)) (fun _ i => four c (fun g => semVal g 0) i) (close_peer X K c)) $$ [A7] with V7
  · rw [seven_sep]
    isplitr; · iexact HP
    iexact A7
  imodintro
  isplitl [VB]; · iexact VB
  isplitl [VS] <;> iassumption

end Cert.KernelIdeal.Talk
-- ==== Proof.KernelIdeal.Region.lean ====
/-
  The talking region as one segment of @main: what its windows stage and write back, its body's obligation by the run, and the segment record.
-/
module

public import proofs.«01_k».proof.Proof.KernelIdeal.Steps
public import proofs.«01_k».proof.Proof.KernelIdeal.Slots
public import proofs.«01_k».proof.Proof.KernelIdeal.Open
public import proofs.«01_k».proof.Proof.Gen.KernelIdeal.Regions
public import Idealize.ShloMosaic.Lib.Pipeline.RegionTalk

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ UU ℕ

variable (m : (ℓ : Loc nD τ sig) → Buf (Elt F) ℓ) (c : Dev nD)

/-- The arrays as the windows stage them. -/
def xIn (c : Dev nD) : Vec F S2x128x512 .bf16 := ((cfg0.win 0).blk t0_0).view.read (Elt F) (V1 m c main_arg0)
def wqIn (c : Dev nD) : BufWq F := ((cfg0.win 1).blk t0_0).view.read (Elt F) (V1 m c main_arg1)
def kIn (c : Dev nD) : Vec F S2x128x2048 .bf16 := ((cfg0.win 2).blk t0_0).view.read (Elt F) (V1 m c main_v15)
def vIn (c : Dev nD) : Vec F S2x128x2048 .bf16 := ((cfg0.win 3).blk t0_0).view.read (Elt F) (V1 m c main_v16)
def woIn (c : Dev nD) : BufWo F := ((cfg0.win 4).blk t0_0).view.read (Elt F) (V1 m c main_arg4)
/-- The block the kernel leaves. -/
def blockOut (c : Dev nD) : Vec F S2x128x512 .f32 := out c (xIn m c) (wqIn m) (kIn m c) (vIn m c) (woIn m)

/-- What every device's slot 0 holds. -/
def weights : Filled F := filled (wqIn m) (woIn m)

/-- The invariants a device's kernel opens, kept for its close. -/
theorem opened_keep (X : Filled F) (K : GSem nD τ sig → ℕ) (c : Dev nD) : opened X K c
    ⊢ (iprop((□ (cellInv ER (sched X) (K (barCell c)) (barCell c) ∗ cellInv ER (sched X) (K (secCell c)) (secCell c) ∗ seven (peerInv X K c))) ∗ opened X K c) : sProp 𝕄) := by
  unfold opened
  iintro ⟨⟨⟨#HB, #HS, #HR, #HL⟩, #HP, #HO⟩, H⟩
  isplitr
  · imodintro
    isplitr; · iexact HB
    isplitr; · iexact HS
    iexact HP
  isplitr
  · isplitr
    · isplitr; · iexact HB
      isplitr; · iexact HS
      isplitr; · iexact HR
      iexact HL
    isplitr; · iexact HP
    iexact HO
  iexact H

/-- The kernel's state beside its windows: at its one point's start, and at its end. -/
def before0 : sProp 𝕄 :=
  iprop((∃ K, opened (weights m) K c) ∗ Pipeline.scopedRest spec0 c ∗ ∃ r, prngReg c r)
def after0 : sProp 𝕄 :=
  iprop((semVal (barCell c) 0 ∗ semVal (secCell c) 0 ∗ seven fun _ i => four c (fun g => semVal g 0) i) ∗ Pipeline.scopedRest spec0 c ∗ ∃ r, prngReg c r)

/-- The region's proof data. -/
def dat0 (c : Dev nD) : Dat τ (Elt F) Unit ℕ UU ℕ cfg0 c where
  A w := match w with
    | 0 => V1 m c main_arg0
    | 1 => V1 m c main_arg1
    | 2 => V1 m c main_v15
    | 3 => V1 m c main_v16
    | 4 => V1 m c main_arg4
    | 5 => V1 m c main_v17
  after w _ := match w with
    | 0 => xIn m c
    | 1 => wqIn m c
    | 2 => kIn m c
    | 3 => vIn m c
    | 4 => woIn m c
    | 5 => blockOut m c
  Φ t := if t.val = 0 then before0 m c else after0 c
  q _ := fullShare
  owed t := if t.val = 0 then O₀ c else 0

def pdats : (p : Fin 1) → (c : Dev nD) → Dat τ (Elt F) Unit ℕ UU ℕ (Pipeline.pin (pcfgs (F := F)) adm p) c
  | 0 => dat0 m

/-! ## What the core owes at the two ends of the point -/

theorem owed_first : (pdats (F := F) m 0 c).owed 0 = O₀ c := by
  show (if ((0 : Fin (cfg0.N + 1)).val = 0) then O₀ c else 0) = O₀ c; exact if_pos rfl
theorem owed_start : (dat0 m c).owed t0_0.castSucc = O₀ c := by
  show (if (t0_0.castSucc : Fin (cfg0.N + 1)).val = 0 then O₀ c else 0) = O₀ c; exact if_pos rfl
theorem owed_end : (pdats (F := F) m 0 c).owed (Fin.last _) = 0 := by
  show (if (Fin.last cfg0.N).val = 0 then O₀ c else 0) = 0
  rw [Fin.val_last, if_neg (by rw [show cfg0.N = 1 from N_0]; decide)]
theorem owed_stop : (dat0 m c).owed t0_0.succ = 0 := by
  show (if (t0_0.succ : Fin (cfg0.N + 1)).val = 0 then O₀ c else 0) = 0; exact if_neg (Nat.succ_ne_zero _)

theorem owes_of_owesAt : ((dat0 m c).owesAt () t0_0.castSucc : sProp 𝕄) ⊢ iprop(∃ W, owes (c : Thread nD τ) (O₀ c) W) := by
  unfold Dat.owesAt Pipeline.owesWithin; rw [owed_start]
  iintro ⟨%W, -, HO⟩; iexists W; iexact HO
theorem owesAt_of_owes : (iprop(∃ W, owes (c : Thread nD τ) 0 W) : sProp 𝕄) ⊢ (dat0 m c).owesAt () t0_0.succ := by
  unfold Dat.owesAt Pipeline.owesWithin Dat.bound; rw [owed_stop]
  iintro ⟨%W, HO⟩; iexists W; isplitr; · ipureintro; exact fun _ _ => Or.inl trivial
  iexact HO

theorem phi_start : (dat0 m c).Φ t0_0.castSucc = before0 m c := by
  show (if (t0_0.castSucc : Fin (cfg0.N + 1)).val = 0 then before0 m c else after0 c) = _; exact if_pos rfl
theorem phi_stop : (dat0 m c).Φ t0_0.succ = after0 c := by
  show (if (t0_0.succ : Fin (cfg0.N + 1)).val = 0 then before0 m c else after0 c) = _; exact if_neg (Nat.succ_ne_zero _)

/-! ## What the windows' buffers hold as the body starts -/

theorem before_0 (d) : (dat0 m c).before 0 t0_0 d = xIn m c := (Dat.before_fetched _ 0 t0_0 (fetch0_0 _) d).trans rfl
theorem before_1 (d) : (dat0 m c).before 1 t0_0 d = wqIn m c := (Dat.before_fetched _ 1 t0_0 (fetch0_1 _) d).trans rfl
theorem before_2 (d) : (dat0 m c).before 2 t0_0 d = kIn m c := (Dat.before_fetched _ 2 t0_0 (fetch0_2 _) d).trans rfl
theorem before_3 (d) : (dat0 m c).before 3 t0_0 d = vIn m c := (Dat.before_fetched _ 3 t0_0 (fetch0_3 _) d).trans rfl
theorem before_4 (d) : (dat0 m c).before 4 t0_0 d = woIn m c := (Dat.before_fetched _ 4 t0_0 (fetch0_4 _) d).trans rfl

/-- The body run whole: from its start's state and the staged blocks, to its end's state and the block it leaves. -/
theorem body_run (o : Vec F S2x128x512 .f32) (Kt : PUnit → sProp 𝕄) :
    iprop((before0 m c ∗ (∃ W, owes (c : Thread nD τ) (O₀ c) W)
      ∗ pt c (Memref.whole cc0_stg0_0) (xIn m c) ∗ pt c (Memref.whole cc0_stg1_0) (wqIn m c) ∗ pt c (Memref.whole cc0_stg2_0) (kIn m c) ∗ pt c (Memref.whole cc0_stg3_0) (vIn m c)
      ∗ pt c (Memref.whole cc0_stg4_0) (woIn m c) ∗ pt c (Memref.whole cc0_stg5_0) o)
      ∗ ((after0 c ∗ (∃ W, owes (c : Thread nD τ) 0 W)
      ∗ pt c (Memref.whole cc0_stg0_0) (xIn m c) ∗ pt c (Memref.whole cc0_stg1_0) (wqIn m c) ∗ pt c (Memref.whole cc0_stg2_0) (kIn m c) ∗ pt c (Memref.whole cc0_stg3_0) (vIn m c)
      ∗ pt c (Memref.whole cc0_stg4_0) (woIn m c) ∗ pt c (Memref.whole cc0_stg5_0) (blockOut m c)) -∗ Kt ⟨⟩))
    ⊢ wp frame (wpE (Ix := Unit) (Name := ℕ) (U := UU) (Lvl := ℕ) defs₀ Variants.none (c : Thread nD τ) none) Set.univ
      (cc0_body (F := F) (Memref.whole cc0_stg0_0) (hstage0_0 0) (Memref.whole cc0_stg1_0) (hstage0_1 0) (Memref.whole cc0_stg2_0) (hstage0_2 0)
        (Memref.whole cc0_stg3_0) (hstage0_3 0) (Memref.whole cc0_stg4_0) (hstage0_4 0) (Memref.whole cc0_stg5_0) (hstage0_5 0)
        (Memref.whole cc0_scratch0) (Memref.isWhole_whole _) (Memref.whole cc0_scratch1) (Memref.isWhole_whole _)
        (Memref.whole cc0_scratch2) (Memref.isWhole_whole _) (Memref.whole cc0_scratch3) (Memref.isWhole_whole _) cc0_scratch4 cc0_scratch5 cc0_scoped0) Kt := by
  unfold before0
  rw [scopedRest0_eq]
  iintro ⟨⟨⟨⟨%K, Hop⟩, ⟨S0, S1, ⟨%ct, S2⟩, ⟨%a, S3⟩⟩, Hp⟩, ⟨%W, HO⟩, B0, B1, B2, B3, B4, B5⟩, HK⟩
  ihave Hs := (slots_split c) $$ [S0 S1]
  · isplitl [S0] <;> iassumption
  icases Hs with ⟨Hsl, Hsr⟩
  ihave Hop := (opened_keep (weights m) K c) $$ Hop
  icases Hop with ⟨#Hinv, Hop⟩
  iapply wp_fupd
  iapply ((run c (xIn m c) (wqIn m) (kIn m c) (vIn m c) (woIn m) o).2 K ct a W _)
  isplitl [Hop Hsl HO B0 B1 B2 B3 B4 B5 S2 S3]
  · isplitl [Hop]; · iexact Hop
    isplitl [Hsl]; · iexact Hsl
    isplitl [HO]; · iexact HO
    isplitl [B0]; · iexact B0
    isplitl [B1]; · iexact B1
    isplitl [B2]; · iexact B2
    isplitl [B3]; · iexact B3
    isplitl [B4]; · iexact B4
    isplitl [B5]; · iexact B5
    isplitl [S2]; · iexact S2
    iexact S3
  iintro ⟨%g1, %h1, %g2, %h2, %g3, %h3, %g4, %h4, %g5, %h5, %g6, %h6, %g7, %h7, H⟩
  ihave H := (Entails.of_eq (congrArg (ended c (xIn m c) (wqIn m c) (kIn m c) (vIn m c) (woIn m c))
    (run_eq (c := c) (x := xIn m c) (wq := wqIn m) (kf := kIn m c) (vf := vIn m c) (wo := woIn m) o g1 h1 g2 h2 g3 h3 g4 h4 g5 h5 g6 h6 g7 h7))) $$ H
  unfold ended
  icases H with ⟨⟨Hsl, Hat, H7, HO⟩, ⟨B0, B1, B2, B3, B4, B5⟩, S2, S3⟩
  imod (close_all (weights m) K c) $$ [Hat H7] with Hz
  · isplitr; · iexact Hinv
    isplitl [Hat] <;> iassumption
  ihave Hs := (slots_join c g1 h1) $$ [Hsl Hsr]
  · isplitl [Hsl] <;> iassumption
  icases Hs with ⟨S0, S1⟩
  imodintro
  iapply HK
  isplitl [Hz S0 S1 S2 S3 Hp]
  · unfold after0
    rw [scopedRest0_eq]
    isplitl [Hz]; · iexact Hz
    isplitr [Hp]
    · isplitl [S0]; · iexact S0
      isplitl [S1]; · iexact S1
      isplitl [S2]; · iexact S2
      iexact S3
    iexact Hp
  isplitl [HO]; · iexact HO
  isplitl [B0]; · iexact B0
  isplitl [B1]; · iexact B1
  isplitl [B2]; · iexact B2
  isplitl [B3]; · iexact B3
  isplitl [B4]; · iexact B4
  iexact B5

/-- The pipeline's obligation of the body. -/
theorem body0 (c : Dev nD) : BodyObligation (dat0 (F := F) m c) defs₀ Variants.none () Set.univ := fun t => by
  obtain rfl := fin_N0 t
  rw [bigSep_W0, bigSep_W0, phi_start, phi_stop]
  iintro ⟨HΦ, HO, ⟨%d0, B0⟩, ⟨%d1, B1⟩, ⟨%d2, B2⟩, ⟨%d3, B3⟩, ⟨%d4, B4⟩, ⟨%d5, B5⟩⟩
  rw [before_0, before_1, before_2, before_3, before_4]
  ihave HO := (owes_of_owesAt m c) $$ HO
  iapply (body_run m c ((dat0 m c).before 5 t0_0 d5) _)
  isplitl [HΦ HO B0 B1 B2 B3 B4 B5]
  · isplitl [HΦ]; · iexact HΦ
    isplitl [HO]; · iexact HO
    isplitl [B0]; · iapply (Entails.of_eq (owns_whole (c : Thread nD τ) cc0_stg0_0 fullShare (xIn m c))) $$ B0
    isplitl [B1]; · iapply (Entails.of_eq (owns_whole (c : Thread nD τ) cc0_stg1_0 fullShare (wqIn m c))) $$ B1
    isplitl [B2]; · iapply (Entails.of_eq (owns_whole (c : Thread nD τ) cc0_stg2_0 fullShare (kIn m c))) $$ B2
    isplitl [B3]; · iapply (Entails.of_eq (owns_whole (c : Thread nD τ) cc0_stg3_0 fullShare (vIn m c))) $$ B3
    isplitl [B4]; · iapply (Entails.of_eq (owns_whole (c : Thread nD τ) cc0_stg4_0 fullShare (woIn m c))) $$ B4
    iapply (Entails.of_eq (owns_whole (c : Thread nD τ) cc0_stg5_0 fullShare _)) $$ B5
  iintro ⟨HΦ, HO, B0, B1, B2, B3, B4, B5⟩
  isplitl [HΦ]; · iexact HΦ
  isplitl [HO]; · iapply (owesAt_of_owes m c) $$ HO
  isplitl [B0]; · iapply (Entails.of_eq (owns_whole (c : Thread nD τ) cc0_stg0_0 fullShare (xIn m c)).symm) $$ B0
  isplitl [B1]; · iapply (Entails.of_eq (owns_whole (c : Thread nD τ) cc0_stg1_0 fullShare (wqIn m c)).symm) $$ B1
  isplitl [B2]; · iapply (Entails.of_eq (owns_whole (c : Thread nD τ) cc0_stg2_0 fullShare (kIn m c)).symm) $$ B2
  isplitl [B3]; · iapply (Entails.of_eq (owns_whole (c : Thread nD τ) cc0_stg3_0 fullShare (vIn m c)).symm) $$ B3
  isplitl [B4]; · iapply (Entails.of_eq (owns_whole (c : Thread nD τ) cc0_stg4_0 fullShare (woIn m c)).symm) $$ B4
  iapply (Entails.of_eq (owns_whole (c : Thread nD τ) cc0_stg5_0 fullShare (blockOut m c)).symm) $$ B5

/-! ## The segment -/

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem ownSems0_eq : (Pipeline.ownSems0 (Ix := Unit) (Val := Elt F) (Name := ℕ) (U := UU) (Lvl := ℕ) ownSem c : sProp 𝕄)
    = iprop(semVal (secCell c) 0 ∗ seven fun _ i => four c (fun g => semVal g 0) i) :=
  own_eq c (fun g => semVal g 0)

/-- What a device's kernel enters with, before and after its cells are opened, and what it leaves. -/
def Tk (c : Dev nD) : sProp 𝕄 := iprop(∃ K, ghost (weights m) K c)
def Xk (c : Dev nD) : sProp 𝕄 := iprop(∃ K, opened (weights m) K c)
def Yk (c : Dev nD) : sProp 𝕄 := semVal (barCell c) 0

theorem hopen (c : Dev nD) : iprop(Tk m c ∗ Pipeline.ownSems0 ownSem c ∗ levAts L lv) ⊢ (|={Set.univ}=> Xk m c : sProp 𝕄) := by
  rw [ownSems0_eq]
  unfold Tk Xk
  iintro ⟨⟨%K, Hg⟩, Hs, HL⟩
  imod (open_all (weights m) K c) $$ [Hg Hs HL] with H
  · isplitl [Hg]; · iexact Hg
    isplitl [Hs]; · iexact Hs
    iexact HL
  imodintro
  iexists K; iexact H

theorem phi_zero : (pdats (F := F) m 0 c).Φ 0 = before0 m c := by
  show (if (0 : Fin (cfg0.N + 1)).val = 0 then before0 m c else after0 c) = _; exact if_pos rfl
theorem phi_last : (pdats (F := F) m 0 c).Φ (Fin.last _) = after0 c := by
  show (if (Fin.last cfg0.N).val = 0 then before0 m c else after0 c) = _
  rw [Fin.val_last, if_neg (by rw [show cfg0.N = 1 from N_0]; decide)]

theorem hin (c : Dev nD) : iprop(Pipeline.scopedRest (Pipeline.pin (pcfgs (F := F)) adm 0).spec c ∗ (∃ r, prngReg c r)
    ∗ StableHlo.held (c.tc : Thread nD τ) ∅ (V1 m c) ∗ Xk m c) ⊢ (pdats m 0 c).Φ 0 := by
  rw [phi_zero]
  unfold before0 Xk
  iintro ⟨Hs, Hp, -, HK⟩
  isplitl [HK]; · iexact HK
  isplitl [Hs]; · iexact Hs
  iexact Hp

/-- The unscoped buffers as the region leaves them: the result's array at what its write-back leaves. -/
def Vend (c : Dev nD) : Valuation τ sig (Elt F) := Function.update (V1 m c) (Proc.devRef .tc main_v17) ((dat0 m c).arrAt 5 cfg0.N)

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (Vend m c) ∗ Pipeline.ownSems0 ownSem c ∗ Yk c) := by
  rw [phi_last, ownSems0_eq, show StableHlo.held (c.tc : Thread nD τ) ∅ (Vend m c) = (BI.emp : sProp 𝕄) from BI.bigSep_empty]
  unfold after0 Yk
  iintro ⟨⟨HB, Hs⟩, Hr, Hp⟩
  isplitl [Hr]; · iexact Hr
  isplitl [Hp]; · iexact Hp
  isplitr; · iempintro
  isplitl [Hs]; · iexact Hs
  iexact HB

theorem cutD (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then O₀ c else 0 := rfl
  rw [e] at h
  split at h
  · exact ⟨by rw [L, if_pos (above_O₀ c g i h).1]; exact Finset.mem_singleton_self _, (above_O₀ c g i h).2⟩
  · exact absurd h (Nat.lt_irrefl 0)

/-- The unscoped buffers no window stages. -/
def others : Finset (DevRef τ sig) := Pipeline.ucRefs τ sig \ Pipeline.arrRefs spec0

theorem arr_of_window : ∀ w : Fin 6, Proc.devRef .tc (Pipeline.arrRef spec0 w) = (Proc.devRef .tc main_v17 : DevRef τ sig) → w = 5 := by decide

theorem entry_eq (w : Fin 6) : (pdats (F := F) m 0 c).arrAt w 0 = V1 m c (Proc.devRef .tc (Pipeline.arrRef spec0 w)) := by
  fin_cases w <;> rfl
theorem exit_eq (w : Fin 6) : (pdats (F := F) m 0 c).arrAt w (Pipeline.pin (pcfgs (F := F)) adm 0).N = Vend m c (Proc.devRef .tc (Pipeline.arrRef spec0 w)) := by
  have hin (w : Fin 6) (hw : (cfg0.win w).isOut = false) (hne : Proc.devRef .tc (Pipeline.arrRef spec0 w) ≠ (Proc.devRef .tc main_v17 : DevRef τ sig)) :
      (dat0 m c).arrAt w cfg0.N = Vend m c (Proc.devRef .tc (Pipeline.arrRef spec0 w)) := by
    have h1 := (dat0 m c).arrAt_in w hw cfg0.N
    have h2 : Vend m c (Proc.devRef .tc (Pipeline.arrRef spec0 w)) = V1 m c (Proc.devRef .tc (Pipeline.arrRef spec0 w)) := Function.update_of_ne hne _ _
    rw [h1, h2]
    exact entry_eq m c w
  by_cases h : w = 5
  · subst h; exact (Function.update_self (Proc.devRef .tc main_v17 : DevRef τ sig) ((dat0 m c).arrAt 5 cfg0.N) (V1 m c)).symm
  · exact hin w (by revert w; decide) fun e => h (arr_of_window w e)
theorem rest_eq (b : DevRef τ sig) (hb : b ∈ others \ ∅) : Vend m c b = V1 m c b := by
  have hne : b ≠ Proc.devRef .tc main_v17 := by
    rintro rfl
    exact absurd hb (by decide)
  exact Function.update_of_ne hne _ _

set_option backward.isDefEq.respectTransparency.types false in
/-- The kernel's segment. -/
def reg : Pipeline.RegionSeg (pcfgs (F := F)) adm (pdats m) () defs₀ Variants.none L lv 0 :=
  Pipeline.RegionSeg.ofTalk (pcfgs (F := F)) adm (pdats m) () defs₀ Variants.none L lv 0 ownSem (by decide +kernel : Pipeline.OwnSemFacts spec0 ownSem)
    ∅ others (Finset.empty_subset _) kitP rfl (fun c => (body0 m c).loose)
    (fun _ => 0) O₀ (fun c => (owed_first m c).trans (zero_add _).symm) (owed_end m) (fun _ => rfl) (fun _ w => by unfold Dat.share; split <;> rfl)
    (V1 m) (Vend m) (fun c b hb => rest_eq m c b hb)
    (Tk m) Yk (Xk m) Yk (hopen m) (hin m) (hout m)
    (fun c => by iintro H; imodintro; iexact H)
    (fun _ => 0)
    ⟨fun c w s => by rw [L_tc]; exact Finset.mem_singleton_self _, fun c w s => by fin_cases w <;> fin_cases s <;> exact Nat.le_refl 0, fun c t g i h => cutD m c t g i h⟩
    (fun _ => iprop(emp))
    (entry_eq m) (exit_eq m)

end Cert.KernelIdeal.Talk
-- ==== Proof.KernelIdeal.Deal.lean ====
/-
  The launch: every device's cells get their invariants, the kernel's own ones dormant; tokens, positions and credit are dealt to the devices that
  use them.
-/
module

public import proofs.«01_k».proof.Proof.KernelIdeal.Open

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## Cells and tokens -/

theorem ownSem_inj : Function.Injective ownSem := by decide +kernel
theorem ownSem_ne_bar : ∀ k, ownSem k ≠ .reg barS := by decide

def barEmb : Dev nD ↪ GSem nD τ sig := ⟨fun c => barCell c, fun _ _ h => congrArg (fun g : GSem nD τ sig => g.1.1) h⟩
def ownEmb : Dev nD × Own ↪ GSem nD τ sig :=
  ⟨fun p => ((p.1 : Thread nD τ), ownSem p.2), fun _ _ h =>
    Prod.ext (congrArg (fun g : GSem nD τ sig => g.1.1) h) (ownSem_inj (congrArg Prod.snd h))⟩
abbrev barCells : Finset (GSem nD τ sig) := Finset.univ.map barEmb
abbrev ownCells : Finset (GSem nD τ sig) := Finset.univ.map ownEmb

theorem disjoint_cells : Disjoint barCells ownCells := by
  rw [Finset.disjoint_left]
  intro g h₁ h₂
  obtain ⟨c, -, rfl⟩ := Finset.mem_map.mp h₁
  obtain ⟨p, -, h⟩ := Finset.mem_map.mp h₂
  exact ownSem_ne_bar p.2 (congrArg Prod.snd h)

/-- The semaphore and the duty of each token, towards the device `i + 1` places away. -/
def tokAt (i : Fin 7) : Fin 6 → SemLoc sig × ℕ
  | 0 => (.reg barS, i.val + 1)
  | 1 => (.reg secS, i.val + 1)
  | 2 => (.dma (recvS i.val 0), 0)
  | 3 => (.dma (recvS i.val 1), 0)
  | 4 => (.dma (sendS i.val 0), 0)
  | 5 => (.dma (sendS i.val 1), 0)
theorem tokAt_inj : Function.Injective fun p : Fin 7 × Fin 6 => tokAt p.1 p.2 := by decide +kernel

def tokEmb : (Fin 7 × Dev nD × Fin 6) ↪ GSem nD τ sig × ℕ × ℕ :=
  ⟨fun p => (((p.2.1 : Thread nD τ), (tokAt p.1 p.2.2).1), 0, (tokAt p.1 p.2.2).2), fun p q h => by
    have h1 : p.2.1 = q.2.1 := congrArg (fun x : GSem nD τ sig × ℕ × ℕ => x.1.1.1) h
    have h2 : (p.1, p.2.2) = (q.1, q.2.2) := tokAt_inj (a₁ := (p.1, p.2.2)) (a₂ := (q.1, q.2.2)) (Prod.ext (congrArg (fun x : GSem nD τ sig × ℕ × ℕ => x.1.2) h) (congrArg (fun x : GSem nD τ sig × ℕ × ℕ => x.2.2) h))
    exact Prod.ext (congrArg (fun x : Fin 7 × Fin 6 => x.1) h2) (Prod.ext h1 (congrArg (fun x : Fin 7 × Fin 6 => x.2) h2))⟩
abbrev toks : Finset (GSem nD τ sig × ℕ × ℕ) := Finset.univ.map tokEmb

def tokBars (t : Dev nD) (i : ℕ) : sProp 𝕄 := iprop(dutyTok ER (barCell t) 0 (i + 1) ∗ dutyTok ER (secCell t) 0 (i + 1))
def tokRecvs (t : Dev nD) (i : ℕ) : sProp 𝕄 := iprop(dutyTok ER (recvCell t i 0) 0 0 ∗ dutyTok ER (recvCell t i 1) 0 0)
def tokSends (t : Dev nD) (i : ℕ) : sProp 𝕄 := iprop(dutyTok ER (sendCell t i 0) 0 0 ∗ dutyTok ER (sendCell t i 1) 0 0)

theorem peerTok_eq (c : Dev nD) (i : ℕ) : (peerTok c (i + 1) i : sProp 𝕄) = iprop(tokBars (fw c (i + 1)) i ∗ tokRecvs (fw c (i + 1)) i ∗ tokSends c i) := rfl

theorem six_up (P Q R S T U : sProp 𝕄) : iprop(P ∗ Q ∗ R ∗ S ∗ T ∗ U) = iprop((P ∗ Q) ∗ (R ∗ S) ∗ (T ∗ U)) := by
  have h1 : iprop(P ∗ Q ∗ R ∗ S ∗ T ∗ U) ⊢ iprop((P ∗ Q) ∗ (R ∗ S) ∗ (T ∗ U)) := by
    iintro ⟨H1, H2, H3, H4, H5⟩
    isplitl [H1 H2]
    · isplitl [H1] <;> iassumption
    isplitl [H3 H4]
    · isplitl [H3] <;> iassumption
    iexact H5
  have h2 : iprop((P ∗ Q) ∗ (R ∗ S) ∗ (T ∗ U)) ⊢ iprop(P ∗ Q ∗ R ∗ S ∗ T ∗ U) := by
    iintro ⟨⟨H1, H2⟩, ⟨H3, H4⟩, H5⟩
    isplitl [H1]; · iexact H1
    isplitl [H2]; · iexact H2
    isplitl [H3]; · iexact H3
    isplitl [H4] <;> iassumption
  exact BI.equiv_iff.mp ⟨h1, h2⟩

/-- The tokens, each with the device that pays its duty. -/
theorem toks_around : bigSep toks (fun x => (dutyTok ER x.1 x.2.1 x.2.2 : sProp 𝕄)) ⊢ bigSep Finset.univ fun c : Dev nD => seven (peerTok (F := F) c) := by
  have h6 (i : Fin 7) (c : Dev nD) : (bigSep Finset.univ fun k : Fin 6 => (dutyTok ER ((c : Thread nD τ), (tokAt i k).1) 0 (tokAt i k).2 : sProp 𝕄))
      = iprop(tokBars c i.val ∗ tokRecvs c i.val ∗ tokSends c i.val) := by
    rw [BI.bigSep_univ_eq_bigSepL [(0 : Fin 6), 1, 2, 3, 4, 5] (by decide) (by decide)]
    exact six_up _ _ _ _ _ _
  have hi (i : Fin 7) : (bigSep Finset.univ fun c : Dev nD => (iprop(tokBars c i.val ∗ tokRecvs c i.val ∗ tokSends c i.val) : sProp 𝕄))
      = bigSep Finset.univ fun c : Dev nD => peerTok c (i.val + 1) i.val := by
    rw [bigSep_sep', bigSep_sep', BI.bigSep_univ_equiv (turn (i.val + 1) (by omega)) (fun c => (tokBars c i.val : sProp 𝕄)),
      BI.bigSep_univ_equiv (turn (i.val + 1) (by omega)) (fun c => (tokRecvs c i.val : sProp 𝕄)), ← bigSep_sep', ← bigSep_sep']
    rfl
  rw [BI.bigSep_map, BI.bigSep_univ_prod]
  refine Entails.of_eq ((BI.bigSep_congr fun i _ => ?_).trans ((BI.bigSep_univ_comm _).trans (BI.bigSep_congr fun c _ => (seven_eq _).symm)))
  rw [BI.bigSep_univ_prod]
  exact (BI.bigSep_congr fun c _ => h6 i c).trans (hi i)

/-! ## The launch credit -/

theorem fw_iff (d c : Dev nD) (o : ℕ) (h : o < 9) : c = fw d o ↔ d = fw c (8 - o) :=
  ⟨fun e => by rw [e, fw_back d o h], fun e => by rw [e, fw_back' c o h]⟩

/-- What the devices together pay to one cell by a term that each of them owes to the device `o` places ahead of it. -/
theorem sum_to (sm : SemLoc sig) (o a : ℕ) (h : o < 9) (c : Dev nD) :
    (∑ d : Dev nD, (tallyAt ((fw d o : Thread nD τ), sm) () a : CellTallies nD τ sig Unit) ((c : Thread nD τ), sm) ()) = a := by
  rw [Finset.sum_congr rfl fun d _ => show _ = if d = fw c (8 - o) then a else 0 from ?_, Finset.sum_ite_eq' Finset.univ (fw c (8 - o)) fun _ => a, if_pos (Finset.mem_univ _)]
  rw [tallyAt_apply]
  refine if_congr ⟨fun e => (fw_iff d c o h).mp (congrArg (fun g : GSem nD τ sig => g.1.1) e.1), fun e => ⟨?_, rfl⟩⟩ rfl rfl
  rw [← (fw_iff d c o h).mpr e]
theorem off (sm sm' : SemLoc sig) (t c : Dev nD) (a : ℕ) (h : sm ≠ sm') :
    (tallyAt ((t : Thread nD τ), sm') () a : CellTallies nD τ sig Unit) ((c : Thread nD τ), sm) () = 0 := by
  rw [tallyAt_apply, if_neg fun e => h (congrArg Prod.snd e.1)]

theorem owed_apply (d c : Dev nD) (sm : SemLoc sig) : O₀ d ((c : Thread nD τ), sm) ()
    = (∑ i : Fin 7, (tallyAt (secCell (fw d (i.val + 1))) () 1 : CellTallies nD τ sig Unit) ((c : Thread nD τ), sm) ())
      + (∑ i : Fin 7, ((tallyAt (recvCell (fw d (i.val + 1)) i.val 0) () N : CellTallies nD τ sig Unit) ((c : Thread nD τ), sm) ()
        + (tallyAt (recvCell (fw d (i.val + 1)) i.val 1) () N : CellTallies nD τ sig Unit) ((c : Thread nD τ), sm) ()))
      + ∑ i : Fin 7, (tallyAt (barCell (fw d (i.val + 1))) () 1 : CellTallies nD τ sig Unit) ((c : Thread nD τ), sm) () := by
  unfold O₀ oSec oRecv oBar
  simp only [Pi.add_apply, Finsupp.add_apply, Finset.sum_apply, Finsupp.finset_sum_apply]

theorem sum_bar (c : Dev nD) : ∑ d : Dev nD, O₀ d (barCell c) () = 7 := by
  simp only [owed_apply, off _ _ _ _ _ (show SemLoc.reg barS ≠ .reg secS by decide), off (.reg barS) (.dma _) _ _ _ (by simp), Finset.sum_const_zero, Nat.zero_add, Nat.add_zero]
  rw [Finset.sum_comm, Finset.sum_congr rfl fun i _ => sum_to (.reg barS) (i.val + 1) 1 (by omega) c]
  rfl
theorem sum_sec (c : Dev nD) : ∑ d : Dev nD, O₀ d (secCell c) () = 7 := by
  simp only [owed_apply, off _ _ _ _ _ (show SemLoc.reg secS ≠ .reg barS by decide), off (.reg secS) (.dma _) _ _ _ (by simp), Finset.sum_const_zero, Nat.zero_add, Nat.add_zero]
  rw [Finset.sum_comm, Finset.sum_congr rfl fun i _ => sum_to (.reg secS) (i.val + 1) 1 (by omega) c]
  rfl
theorem sum_recv (c : Dev nD) (j : Fin 7) (k : Fin 2) : ∑ d : Dev nD, O₀ d (recvCell c j.val k.val) () = N := by
  have hne (i : Fin 7) (k' : Fin 2) (h : ¬ (i = j ∧ k' = k)) (d : Dev nD) :
      (tallyAt (recvCell (fw d (i.val + 1)) i.val k'.val) () N : CellTallies nD τ sig Unit) ((c : Thread nD τ), .dma (recvS j.val k.val)) () = 0 :=
    off _ _ _ c N fun e => by
      obtain ⟨e1, e2⟩ := recv_inj _ _ _ _ j.isLt k.isLt i.isLt k'.isLt (SemLoc.dma.inj e)
      exact h ⟨Fin.ext e1.symm, Fin.ext e2.symm⟩
  simp only [owed_apply, off (.dma _) (.reg _) _ _ _ (by simp), Finset.sum_const_zero, Nat.zero_add, Nat.add_zero]
  rw [Finset.sum_comm, Finset.sum_eq_single j]
  · rw [Finset.sum_add_distrib]
    match k with
    | 0 =>
      have e0 : (∑ d : Dev nD, (tallyAt (recvCell (fw d (j.val + 1)) j.val 1) () N : CellTallies nD τ sig Unit) ((c : Thread nD τ), .dma (recvS j.val (0 : Fin 2).val)) ()) = 0 :=
        Finset.sum_eq_zero fun d _ => hne j 1 (by simp) d
      rw [e0, Nat.add_zero]
      exact sum_to (.dma (recvS j.val 0)) (j.val + 1) N (by omega) c
    | 1 =>
      have e0 : (∑ d : Dev nD, (tallyAt (recvCell (fw d (j.val + 1)) j.val 0) () N : CellTallies nD τ sig Unit) ((c : Thread nD τ), .dma (recvS j.val (1 : Fin 2).val)) ()) = 0 :=
        Finset.sum_eq_zero fun d _ => hne j 0 (by simp) d
      rw [e0, Nat.zero_add]
      exact sum_to (.dma (recvS j.val 1)) (j.val + 1) N (by omega) c
  · intro i _ hij
    exact Finset.sum_eq_zero fun d _ => congrArg₂ (· + ·) (hne i 0 (fun h => hij h.1) d) (hne i 1 (fun h => hij h.1) d)
  · exact fun h => absurd (Finset.mem_univ j) h

theorem launch_at (c : Dev nD) (sm : SemLoc sig) (a : ℕ) (h : ∑ d : Dev nD, O₀ d ((c : Thread nD τ), sm) () = a) :
    tallyOn ((c : Thread nD τ), sm) (launchCredit (Pipeline.owing O₀) 0 ((c : Thread nD τ), sm)) = (tallyAt ((c : Thread nD τ), sm) () a : CellTallies nD τ sig Unit) := by
  unfold tallyAt
  refine congrArg _ (Finsupp.ext fun u => ?_)
  cases u
  rw [Pipeline.launchCredit_owing, Finsupp.single_eq_same, h]

/-- The semaphores a device is paid on by the others. -/
def credEmb : (Fin 2 ⊕ (Fin 7 × Fin 2)) ↪ SemLoc sig :=
  ⟨fun | .inl 0 => .reg barS | .inl 1 => .reg secS | .inr (i, k) => .dma (recvS i.val k.val), by decide +kernel⟩

theorem creds (c : Dev nD) : (Pipeline.launchCred O₀ c : sProp 𝕄)
    ⊢ iprop(cred (tallyAt (barCell c) () 7) ∗ cred (tallyAt (secCell c) () 7) ∗ seven (fun _ i => peerCred (F := F) c i)) := by
  unfold Pipeline.launchCred
  refine (BI.bigSep_subset (Finset.subset_univ (Finset.univ.map credEmb))).trans ?_
  rw [BI.bigSep_map, BI.bigSep_univ_sum, BI.bigSep_univ_prod, seven_eq, BI.bigSep_fin_two]
  have h (i : Fin 7) : (bigSep Finset.univ fun k : Fin 2 => (cred (tallyOn ((c : Thread nD τ), credEmb (.inr (i, k))) (launchCredit (Pipeline.owing O₀) 0 ((c : Thread nD τ), credEmb (.inr (i, k))))) : sProp 𝕄))
      = peerCred c i.val := by
    rw [BI.bigSep_fin_two]
    exact congrArg₂ BI.sep (congrArg cred (launch_at c (.dma (recvS i.val 0)) N (sum_recv c i 0))) (congrArg cred (launch_at c (.dma (recvS i.val 1)) N (sum_recv c i 1)))
  rw [BI.bigSep_congr fun i _ => h i]
  have hb : (cred (tallyOn ((c : Thread nD τ), credEmb (.inl 0)) (launchCredit (Pipeline.owing O₀) 0 ((c : Thread nD τ), credEmb (.inl 0)))) : sProp 𝕄) = cred (tallyAt (barCell c) () 7) :=
    congrArg cred (launch_at c (.reg barS) 7 (sum_bar c))
  have hs : (cred (tallyOn ((c : Thread nD τ), credEmb (.inl 1)) (launchCredit (Pipeline.owing O₀) 0 ((c : Thread nD τ), credEmb (.inl 1)))) : sProp 𝕄) = cred (tallyAt (secCell c) () 7) :=
    congrArg cred (launch_at c (.reg secS) 7 (sum_sec c))
  rw [hb, hs]
  exact BI.sep_assoc

/-! ## Everything dealt -/

abbrev launchElt : URounds (GSem nD τ sig) ℕ := launchOf barCells ownCells toks

/-- A resource given whole to one device and nothing to the others. -/
def atDev (c₀ : Dev nD) (P : sProp 𝕄) (c : Dev nD) : sProp 𝕄 := if c = c₀ then P else iprop(emp)
theorem atDev_all (c₀ : Dev nD) (P : sProp 𝕄) : bigSep Finset.univ (atDev c₀ P) = P := by
  have h : bigSep (Finset.univ.erase c₀) (atDev c₀ P) = (BI.emp : sProp 𝕄) :=
    (bigSep_congr fun c hc => if_neg (Finset.ne_of_mem_erase hc)).trans (BI.bigSep_emp_const _)
  rw [bigSep_univ_at _ c₀, h, show atDev c₀ P c₀ = P from if_pos rfl]
  exact BI.equiv_iff.mp sep_emp

theorem apart {Φ Ψ : Dev nD → sProp 𝕄} : bigSep Finset.univ (fun c => iprop(Φ c ∗ Ψ c)) ⊢ iprop(bigSep Finset.univ Φ ∗ bigSep Finset.univ Ψ) := Entails.of_eq (bigSep_sep' _ _ _)
theorem together {Φ Ψ : Dev nD → sProp 𝕄} : iprop(bigSep Finset.univ Φ ∗ bigSep Finset.univ Ψ) ⊢ bigSep Finset.univ (fun c => iprop(Φ c ∗ Ψ c)) := Entails.of_eq (bigSep_sep' _ _ _).symm

variable (X : Filled F)

/-- What the launch records for good: the invariants, and that the barrier's cells are at their round 0. -/
def records (κ : GSem nD τ sig → ℕ) : sProp 𝕄 :=
  iprop((bigSep (barCells ∪ ownCells) fun g => cellInv ER (sched X) (κ g) g) ∗ bigSep barCells fun g => reached ER g 0)
instance records_persistent (κ : GSem nD τ sig → ℕ) : BI.Persistent (records X κ) := by unfold records; infer_instance

theorem bar_in (c : Dev nD) : barCell c ∈ barCells := Finset.mem_map_of_mem barEmb (Finset.mem_univ c)
theorem own_in (c : Dev nD) (k : Own) : ((c : Thread nD τ), ownSem k) ∈ ownCells := Finset.mem_map_of_mem ownEmb (Finset.mem_univ (c, k))

theorem records_bar (κ : GSem nD τ sig → ℕ) (c : Dev nD) : records X κ ⊢ iprop(cellInv ER (sched X) (κ (barCell c)) (barCell c) ∗ reached ER (barCell c) 0) := by
  unfold records
  exact BI.sep_mono (bigSep_elim (Finset.mem_union_left _ (bar_in c))) (bigSep_elim (bar_in c))
theorem records_own (κ : GSem nD τ sig → ℕ) (c : Dev nD) (k : Own) :
    records X κ ⊢ cellInv ER (sched X) (κ ((c : Thread nD τ), ownSem k)) ((c : Thread nD τ), ownSem k) :=
  (sep_elim_left.trans (bigSep_elim (Φ := fun g => cellInv ER (sched X) (κ g) g) (Finset.mem_union_right _ (own_in c k))) : records X κ ⊢ _)

/-- The records hold every invariant a device uses towards one other device. -/
theorem records_peer (κ : GSem nD τ sig → ℕ) (c : Dev nD) (i : Fin 7) : records X κ ⊢ peerInv X κ c (i.val + 1) i.val := by
  unfold peerInv
  iintro #HR
  ihave HB := (records_bar X κ (fw c (i.val + 1))) $$ HR
  icases HB with ⟨#HB, #Hr⟩
  isplitr
  · isplitr; · iexact HB
    iapply (records_own X κ (fw c (i.val + 1)) (.inl ())); iexact HR
  isplitr
  · isplitr
    · iapply (records_own X κ (fw c (i.val + 1)) (.inr (i, 2))); iexact HR
    · iapply (records_own X κ (fw c (i.val + 1)) (.inr (i, 3))); iexact HR
  isplitr
  · isplitr
    · iapply (records_own X κ c (.inr (i, 0))); iexact HR
    · iapply (records_own X κ c (.inr (i, 1))); iexact HR
  isplitr
  · isplitr
    · iapply (records_own X κ c (.inr (i, 2))); iexact HR
    · iapply (records_own X κ c (.inr (i, 3))); iexact HR
  iexact Hr

/-- What a device alone is dealt of the protocol: its positions and rights to open, and the tokens of the duties it pays. -/
def dealt (c : Dev nD) : sProp 𝕄 :=
  iprop((atPos ER (barCell c) 0 ∅ 0 ∗ (openTok ER (secCell c) ∗ seven fun _ i => four (F := F) c (fun g => openTok ER g) i)) ∗ seven (peerTok (F := F) c))
/-- The credit a device's cells are paid from. -/
def credit (c : Dev nD) : sProp 𝕄 :=
  iprop(cred (tallyAt (barCell c) () 7) ∗ cred (tallyAt (secCell c) () 7) ∗ seven (fun _ i => peerCred (F := F) c i))
/-- What a device holds, beside its buffers, when its program starts. -/
def rest (c : Dev nD) : sProp 𝕄 :=
  iprop((∃ K, ghost X K c) ∗ (∃ r, prngReg c r) ∗ ∃ W, owes (c : Thread nD τ) (O₀ c) W)

theorem rest_intro (ρ : Dev nD → PrngReg) (κ : GSem nD τ sig → ℕ) (c : Dev nD) :
    iprop(records X κ ∗ (dealt (F := F) c ∗ (credit (F := F) c ∗ (owes (c : Thread nD τ) (O₀ c) ∅ ∗ prngReg c (ρ c))))) ⊢ rest X c := by
  unfold rest ghost dealt
  iintro ⟨#HR, ⟨H1, H2⟩, HC, HO, Hp⟩
  isplitl [H1 H2 HC]
  · iexists κ
    isplitr
    · isplitr
      · ihave HB := (records_bar X κ c) $$ HR
        icases HB with ⟨#HB, -⟩
        isplitr; · iexact HB
        iapply (records_own X κ c (.inl ())); iexact HR
      · rw [seven_eq]
        iapply (bigSep_intro_persistent (R := records X κ) fun i _ => records_peer X κ c i)
        iexact HR
    isplitl [H1]; · iexact H1
    isplitl [HC]; · unfold credit; iexact HC
    iexact H2
  isplitl [Hp]; · iexists _; iexact Hp
  iexists ∅; iexact HO

theorem unscoped_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- The launch, on all devices at once. -/
theorem deal (ρ : Dev nD → PrngReg) :
    iprop((bigSep Finset.univ fun c : Dev nD => iprop(unscopedSems0 c ∗ owes (c : Thread nD τ) (O₀ c) ∅ ∗ Pipeline.launchCred O₀ c ∗ prngReg c (ρ c)
        ∗ atDev 0 (BI.own (ER launchElt)) c)) ∗ levAts L lv)
      ⊢ (|={Set.univ}=> bigSep Finset.univ (rest X) : sProp 𝕄) := by
  have hone (c : Dev nD) : iprop(unscopedSems0 c ∗ owes (c : Thread nD τ) (O₀ c) ∅ ∗ Pipeline.launchCred O₀ c ∗ prngReg c (ρ c) ∗ atDev 0 (BI.own (ER launchElt)) c)
      ⊢ (iprop((credit (F := F) c ∗ (owes (c : Thread nD τ) (O₀ c) ∅ ∗ prngReg c (ρ c))) ∗ (semVal (barCell c) 0 ∗ atDev 0 (BI.own (ER launchElt)) c)) : sProp 𝕄) := by
    rw [unscoped_eq]
    iintro ⟨Hs, HO, HC, Hp, HG⟩
    ihave HC := (creds (F := F) c) $$ HC
    isplitr [Hs HG]
    · isplitl [HC]; · unfold credit; iexact HC
      isplitl [HO] <;> iassumption
    isplitl [Hs] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hop : bigSep ownCells (fun g => (openTok ER g : sProp 𝕄))
      ⊢ bigSep Finset.univ (fun c : Dev nD => iprop(openTok ER (secCell c) ∗ seven fun _ i => four (F := F) c (fun g => openTok ER g) i)) :=
    Entails.of_eq (by
      rw [bigSep_map, BI.bigSep_univ_prod]
      exact BI.bigSep_congr fun c _ => own_eq c (fun g => (openTok ER g : sProp 𝕄)))
  iintro ⟨H, -⟩
  ihave H := (show (bigSep Finset.univ fun c : Dev nD => iprop(unscopedSems0 c ∗ owes (c : Thread nD τ) (O₀ c) ∅ ∗ Pipeline.launchCred O₀ c ∗ prngReg c (ρ c)
        ∗ atDev 0 (BI.own (ER launchElt)) c))
      ⊢ (bigSep Finset.univ fun c : Dev nD => iprop((credit (F := F) c ∗ (owes (c : Thread nD τ) (O₀ c) ∅ ∗ prngReg c (ρ c))) ∗ (semVal (barCell c) 0 ∗ atDev 0 (BI.own (ER launchElt)) c)) : sProp 𝕄)
    from bigSep_mono fun c _ => hone c) $$ H
  ihave H := apart $$ H
  icases H with ⟨HB, H⟩
  ihave H := apart $$ H
  icases H with ⟨Hv, HG⟩
  ihave Hu := (Entails.of_eq (atDev_all (F := F) 0 (BI.own (ER launchElt)))) $$ HG
  imod (Rounds.fund_launch ER (sched X) disjoint_cells (fun g _ h => h) toks) $$ [Hv Hu] with ⟨%κ, -, #Hinv, #Hr, Hat, Hopen, Htok⟩
  · isplitl [Hv]
    · iapply hv $$ Hv
    · iexact Hu
  imodintro
  iapply (bigSep_with_persistent (R := records X κ) (Φ := fun c => iprop(dealt (F := F) c ∗ (credit (F := F) c ∗ (owes (c : Thread nD τ) (O₀ c) ∅ ∗ prngReg c (ρ c))))) fun c _ => rest_intro X ρ κ c)
  isplitr
  · unfold records
    isplitr; · iexact Hinv
    iexact Hr
  iapply together
  isplitr [HB]
  · unfold dealt
    iapply together
    isplitl [Hat Hopen]
    · iapply together; isplitl [Hat]; · iapply hat $$ Hat
      iapply hop $$ Hopen
    iapply (toks_around (F := F)) $$ Htok
  · iexact HB

end Cert.KernelIdeal.Talk
-- ==== Proof.KernelIdeal.Main.lean ====
/-
  The whole program: its run from any memory with zero counters ends with the arguments as launched, the result's array as the kernel's write-back leaves it,
  and every counter at zero.
-/
module

public import proofs.«01_k».proof.Proof.KernelIdeal.Region
public import proofs.«01_k».proof.Proof.KernelIdeal.Deal

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ UU ℕ

variable (m : (ℓ : Loc nD τ sig) → Buf (Elt F) ℓ) (ρ : Dev nD → PrngReg) (c : Dev nD)

/-- What rides beside the unscoped buffers before the kernel, and after it. -/
def E : Fin 2 → Dev nD → sProp 𝕄
  | 0 => rest (weights m)
  | 1 => fun c => iprop(semVal (barCell c) 0 ∗ ∃ W, owes (c : Thread nD τ) 0 W)

theorem arrs_sub : Pipeline.arrRefs spec0 ⊆ Pipeline.ucRefs τ sig := by decide

theorem reg_pre : iprop(StableHlo.held (c : Thread nD τ) (Pipeline.ucRefs τ sig) (V1 m c) ∗ E m 0 c) ⊢ (reg m).pre c := by
  rw [StableHlo.held_sub_split (c : Thread nD τ) arrs_sub (V1 m c)]
  show iprop((StableHlo.held (c : Thread nD τ) (Pipeline.arrRefs spec0) (V1 m c) ∗ StableHlo.held (c : Thread nD τ) others (V1 m c)) ∗ rest (weights m) c)
    ⊢ (iprop(StableHlo.held (c : Thread nD τ) (Pipeline.arrRefs spec0) (V1 m c) ∗ (∃ r, prngReg c r) ∗ (StableHlo.held (c : Thread nD τ) others (V1 m c) ∗ emp)
      ∗ Tk m c ∗ ∃ W, owes (c : Thread nD τ) (0 + O₀ c) W) : sProp 𝕄)
  rw [zero_add]
  unfold rest Tk
  iintro ⟨⟨HA, HS⟩, HK, Hp, HO⟩
  isplitl [HA]; · iexact HA
  isplitl [Hp]; · iexact Hp
  isplitl [HS]
  · isplitl [HS]; · iexact HS
    iempintro
  isplitl [HK]; · iexact HK
  iexact HO

theorem reg_post : (reg m).post c ⊢ iprop((StableHlo.held (c : Thread nD τ) (Pipeline.ucRefs τ sig) (Vend m c) ∗ semVal (barCell c) 0)
    ∗ ∃ W, owes (c : Thread nD τ) (0 : CellTallies nD τ sig Unit) W) := by
  rw [StableHlo.held_sub_split (c : Thread nD τ) arrs_sub (Vend m c)]
  show (iprop(StableHlo.held (c : Thread nD τ) (Pipeline.arrRefs spec0) (Vend m c) ∗ (∃ r, prngReg c r) ∗ (StableHlo.held (c : Thread nD τ) others (Vend m c) ∗ emp)
      ∗ Yk c ∗ ∃ W, owes (c : Thread nD τ) 0 W) : sProp 𝕄)
    ⊢ iprop(((StableHlo.held (c : Thread nD τ) (Pipeline.arrRefs spec0) (Vend m c) ∗ StableHlo.held (c : Thread nD τ) others (Vend m c)) ∗ semVal (barCell c) 0)
      ∗ ∃ W, owes (c : Thread nD τ) 0 W)
  unfold Yk
  iintro ⟨HA, -, ⟨HS, -⟩, HB, HO⟩
  isplitr [HO]
  · isplitl [HA HS]
    · isplitl [HA] <;> iassumption
    · iexact HB
  iexact HO

/-- The protocol's element at launch, beside the pipeline's. -/
def u₀ : UU :=
  (initOf (Pipeline.cells (Pipeline.pin (pcfgs (F := F)) adm) cellOf_inj) (Pipeline.launchToks (Pipeline.pin (pcfgs (F := F)) adm) cellOf_inj), launchElt)

/-- The kernel's barrier is the one counter the launch leaves to the program. -/
theorem unscoped_only : ∀ sm : SemLoc sig, sm.isScoped .tc = false → sm = .reg barS := by decide

/-- An argument's buffer ends as launched. -/
theorem Vend_of (r : Ref sig .tc) (h : r ≠ main_v17) (h' : r ∉ hostOps0_W) : Vend m c (Proc.devRef .tc r) = m ((c : Thread nD τ).loc r) :=
  (Function.update_of_ne (StableHlo.devRef_ne_of_ne h) _ _).trans (V1_of m c r h')

theorem read_end (s' : Phys nD τ sig (Elt F)) : iprop((StableHlo.held (c : Thread nD τ) (Pipeline.ucRefs τ sig) (Vend m c) ∗ semVal (barCell c) 0) ∗ SI s')
    ⊢ (|={Set.univ}=> iprop(⌜(∀ b ∈ Pipeline.ucRefs τ sig, s'.mem.mem (c, b) = Vend m c b) ∧ s'.mem.sem (barCell c) = 0⌝ ∗ SI s') : sProp 𝕄) := by
  unfold StableHlo.held
  iintro ⟨⟨Hh, Hb⟩, HSI⟩
  icombine HSI Hb gives %hb
  ihave Hr := (pointsTo_read_all (Pipeline.ucRefs τ sig) (fun b => ((c : Thread nD τ).1, b)) (Vend m c) s') $$ [Hh HSI]
  · isplitl [Hh] <;> iassumption
  icases Hr with ⟨%h, HSI⟩
  imodintro
  isplitr
  · ipureintro
    exact ⟨h, by simpa using hb⟩
  · iexact HSI

set_option backward.isDefEq.respectTransparency.types false in
/-- THE RUN. -/
theorem run_main : θ_run defs (onTc (τ := τ) (main (F := F))) ⟨m, fun _ => 0, ρ⟩ (fun r => (∀ c : Dev nD,
      r.2.mem ((c.tc : Thread nD τ).loc main_v17) = Vend m c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) := by
  refine Pipeline.θ_run_regions_kit_dev_sems (pcfgs (F := F)) adm (pdats m) () cellOf_inj EP defs₀ Variants.none L lv m ρ main
    (segs m Variants.none L lv (E m) () (pdats m) (reg m))
    (fun c Q => by
      rewrite [main_chain c, Seg.run_eq_chain,
        show (segs m Variants.none L lv (E m) () (pdats m) (reg m) c).map Seg.prog = [
          StableHlo.seq (hostOps0 c),
          Prog.lift (.customCall (Pipeline.entry 0) ()) ] from rfl]
      dsimp (config := { failIfUnchanged := false }) only
      exact .rfl)
    (fun c => by simp only [segs, Seg.pipes_host, Seg.pipes_region, Seg.pipes_nil]; decide) (O₀ := O₀)
    (hL := fun g hg => if_neg hg) (G := atDev 0 (BI.own (ER launchElt))) (u₀ := u₀ (F := F))
    (hu₀ := by
      unfold u₀
      iintro Hu
      ihave H := (ownU_pair _ _) $$ Hu
      icases H with ⟨HP, HX⟩
      imodintro
      isplitl [HP]; · iexact HP
      rw [atDev_all]; iexact HX)
    (T₀ := fun c => iprop(StableHlo.held (c : Thread nD τ) (Pipeline.ucRefs τ sig) (V0 m c) ∗ E m 0 c))
    (Tₙ := fun c => iprop(StableHlo.held (c : Thread nD τ) (Pipeline.ucRefs τ sig) (Vend m c) ∗ semVal (barCell c) 0))
    (hch := fun c => ⟨.rfl, reg_pre m c, reg_post m c⟩)
    (hinit := ?_)
    (QY := fun c s => (∀ b ∈ Pipeline.ucRefs τ sig, s.mem (c, b) = Vend m c b) ∧ s.sem (barCell c) = 0)
    (hfin := read_end m)
    (hQ := fun s h hs => ⟨fun c => ?_, sem_eq_zero hs fun c sm hsm => by
      obtain rfl := unscoped_only sm hsm
      exact (h c).2⟩)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ atDev 0 (BI.own (ER launchElt)) c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c)
              ∗ atDev 0 (BI.own (ER launchElt)) c)) : sProp 𝕄) := by
      rw [← bigSep_sep']
      exact bigSep_mono fun c _ => by rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (deal (weights m) ρ) $$ [Hr Hla] with HE
    · isplitl [Hr]; · iexact Hr
      iexact Hla
    imodintro
    rw [bigSep_sep']
    isplitl [Hh]; · iexact Hh
    iexact HE
  · have hr (r : Ref sig .tc) (hu : Proc.devRef .tc r ∈ Pipeline.ucRefs τ sig) : s.mem ((c.tc : Thread nD τ).loc r) = Vend m c (Proc.devRef .tc r) := (h c).1 _ hu
    exact ⟨hr main_v17 (by decide), (hr main_arg0 (by decide)).trans (Vend_of m c _ (by decide) (by decide)),
      (hr main_arg1 (by decide)).trans (Vend_of m c _ (by decide) (by decide)), (hr main_arg2 (by decide)).trans (Vend_of m c _ (by decide) (by decide)),
      (hr main_arg3 (by decide)).trans (Vend_of m c _ (by decide) (by decide)), (hr main_arg4 (by decide)).trans (Vend_of m c _ (by decide) (by decide))⟩

end Cert.KernelIdeal.Talk
-- ==== Proof.Attention.lean ====
/-
  The attention of one query row, in extended reals: the logits with the block-sparse mask, and the softmax-weighted sum of the values.
  Both programs are read down to these.
-/
module

public import Idealize.ShloMosaic.Lib.Pointwise

@[expose] public section

noncomputable section

namespace Cert.Attention

open Idealize.ShloMosaic

/-- A query sees a key unless the query is in the first block and the key in the second. -/
def sees (i j : Fin 128) : Bool := !(decide (i.val < 64) && decide (64 ≤ j.val))

/-- The scale the scores are multiplied by, and minus infinity. -/
def scale : EReal := Ideal.ofBits .f32 0x3E000000#32
def lowest : EReal := Ideal.ofBits .f32 0xFF800000#32

theorem lowest_eq : lowest = ⊥ := by
  simp [lowest, Ideal.ofBits, Ideal.ieee]

/-- The logits of query row `i`. -/
def logits (i : Fin 128) (q : Fin 64 → EReal) (k : Fin 128 → Fin 64 → EReal) (j : Fin 128) : EReal :=
  if sees i j then (∑ d : Fin 64, q d * k j d) * scale else ⊥

/-- The sum of the values weighted by the softmax of the logits. -/
def weighted (s : Fin 128 → EReal) (v : Fin 128 → EReal) : EReal :=
  ∑ j : Fin 128, Ideal.div (Ideal.exp (s j - Finset.univ.fold max lowest s))
    (∑ j' : Fin 128, Ideal.exp (s j' - Finset.univ.fold max lowest s)) * v j

end Cert.Attention
-- ==== Proof.KernelIdeal.Payload.lean ====
/-
  The vector expressions of one step, read at an index.
-/
module

public import proofs.«01_k».proof.Proof.KernelIdeal.Hop
public import proofs.«01_k».proof.Proof.Attention

@[expose] public section

noncomputable section

namespace Cert.KernelIdeal.Talk

open Cert.KernelIdeal.Gen Cert.Attention
open Idealize.ShloMosaic

theorem queries_apply (x : FVec Ideal S256x512 .bf16) (w : Vec Ideal S1x512x256 .bf16) (r e : Fin 256) :
    k0_pay14 x w (ix2 r e) = ∑ k : Fin 512, x (ix2 r k) * w (ix3 0 k e) := by
  pointwise [k0_pay14]

theorem context_apply (g : FVec Ideal S512x128 .f32) (k v : Vec Ideal S1x128x256 .bf16) (a : Vec Ideal S1x512x256 .bf16)
    (r : Fin 512) (e : Fin 256) :
    k0_pay19 g k v a (ix2 r e)
      = weighted (fun j => (∑ d : Fin 256, a (ix3 0 r d) * k (ix3 0 j d)) * scale + g (ix2 r j)) (fun j => v (ix3 0 j e)) := by
  pointwise [k0_pay19, weighted, scale, lowest]

theorem queryBlock (r : Fin 512) (j : Fin 128) :
    k0_pay9 k0_pay5 64#32 k0_pay6 k0_pay7 k0_pay8 (ix2 r j) = if r.val % 128 < 64 then 0#32 else 1#32 := by
  pointwise [k0_pay9, k0_pay5, k0_pay6, k0_pay7, k0_pay8]
  revert r
  decide +kernel

theorem keyBlock (r : Fin 512) (j : Fin 128) :
    k0_pay10 (ix2 r j) = if j.val < 64 then 0#32 else 1#32 := by
  pointwise [k0_pay10]
  revert j
  decide +kernel

theorem neg_apply (r : Fin 512) (j : Fin 128) :
    neg (F := Ideal) (ix2 r j) = if sees ⟨r.val % 128, Nat.mod_lt _ (by decide)⟩ j then 0 else ⊥ := by
  have hq := queryBlock r j
  have hk := keyBlock r j
  pointwise [neg, k0_pay13, k0_pay11, k0_pay12]
  rw [hq, hk]
  have named : Named.named (F := Ideal) (φ := .f32) κ "mask" 3463342888#32 = (⊥ : EReal) := IdealRules.named_const.ideal_named_scalar _ _ _ _ rfl
  rw [named]
  by_cases h₁ : r.val % 128 < 64 <;> by_cases h₂ : j.val < 64 <;> simp [sees, h₁, h₂] <;> rfl

end Cert.KernelIdeal.Talk
-- ==== Proof.KernelIdeal.Stored.lean ====
/-
  What the two working buffers hold after a list of stores, read at an index.
-/
module

public import proofs.«01_k».proof.Proof.KernelIdeal.Payload
public import Idealize.ShloMosaic.Lib.WritesUnit
public import Idealize.ShloMosaic.Lib.VecWindow

@[expose] public section

noncomputable section

namespace Cert.KernelIdeal.Talk

open Cert.KernelIdeal.Gen Cert.Attention
open Idealize.ShloMosaic

/-- The queries' and the contexts' buffers after the stores of a list. -/
def heldA (L : StoresA Ideal) : S2x512x256.Idx → EReal :=
  (Memref.whole cc0_scratch3).view.read (Elt Ideal) ((Memref.whole cc0_scratch3).view.writes (Elt Ideal) (View.junk (Memref.whole cc0_scratch3).view) L)
def heldC (L : StoresC Ideal) : S256x256.Idx → EReal :=
  (Memref.whole cc0_scratch2).view.read (Elt Ideal) ((Memref.whole cc0_scratch2).view.writes (Elt Ideal) (View.junk (Memref.whole cc0_scratch2).view) L)

theorem readA_apply (b : Fin 2) (L : StoresA Ideal) (r : Fin 512) (e : Fin 256) : readA b.val b.isLt L (ix3 0 r e) = heldA L (ix3 b r e) := by
  unfold readA heldA View.readCov
  rw [View.readAt_apply]
  congr 1
  funext a
  apply Fin.ext
  fin_cases a <;> simp

theorem readC_apply (L : StoresC Ideal) (r e : Fin 256) : readC L (ix2 r e) = heldC L (ix2 r e) := by
  unfold readC heldC View.readCov
  rw [View.readAt_apply]
  congr 1
  funext a
  apply Fin.ext
  fin_cases a <;> simp

theorem chunkQ_apply (q : FVec Ideal S256x256 .bf16) (r s : ℕ) (h : S256x256.Slices ![r, s] S128x64) (hr : r ≤ 128) (hs : s ≤ 192) (i : Fin 128) (d : Fin 64) :
    chunkQ q r s h (ix3 0 i d) = q (ix2 ⟨r + i.val, by omega⟩ ⟨s + d.val, by omega⟩) := by
  pointwise [chunkQ]
theorem chunkC_apply (p : FVec Ideal S512x256 .f32) (r s : ℕ) (h : S512x256.Slices ![r, s] S128x64) (hr : r ≤ 384) (hs : s ≤ 192) (i : Fin 128) (d : Fin 64) :
    chunkC p r s h (ix2 i d) = p (ix2 ⟨r + i.val, by omega⟩ ⟨s + d.val, by omega⟩) := by
  pointwise [chunkC]

/-- One store of a head's queries: its block holds them, the rest is as before. -/
theorem heldA_cons (b r o p t : ℕ) (hb : b < 2) (hr : r ≤ 128) (hp : p ≤ 192) (ho : o = 128 * t) (hpt : p = 64 * t)
    (inb : ∀ a, (![b, o, p] : Fin 3 → ℕ) a + S1x128x64.size a ≤ S2x512x256.size a) (q : FVec Ideal S256x256 .bf16) (h : S256x256.Slices ![r, p] S128x64)
    (L : StoresA Ideal) (b' : Fin 2) (R : Fin 512) (e : Fin 256) :
    heldA (⟨Rect.unit ![b, o, p] S1x128x64.size inb, chunkQ q r p h⟩ :: L) (ix3 b' R e)
      = if b'.val = b ∧ R.val / 128 = t ∧ e.val / 64 = t then q (ix2 ⟨r + R.val % 128, by omega⟩ e) else heldA L (ix3 b' R e) := by
  unfold heldA
  by_cases hit : b'.val = b ∧ R.val / 128 = t ∧ e.val / 64 = t
  · rw [if_pos hit]
    obtain ⟨h₁, h₂, h₃⟩ := hit
    rw [View.read_writes_cons_unit_of_mem _ _ inb _ _ _ (ix3 0 ⟨R.val % 128, by omega⟩ ⟨e.val % 64, by omega⟩) rfl, chunkQ_apply _ _ _ _ hr hp]
    · congr 2
      apply Fin.ext
      show p + e.val % 64 = e.val
      omega
    · intro a
      fin_cases a
      · show b'.val = b + 0; omega
      · show R.val = o + R.val % 128; omega
      · show e.val = p + e.val % 64; omega
  · rw [if_neg hit]
    by_cases h₁ : b'.val = b
    · by_cases h₂ : R.val / 128 = t
      · refine View.read_writes_cons_unit_of_not_mem _ _ inb _ _ _ rfl 2 ?_
        show e.val < p ∨ p + 64 ≤ e.val
        omega
      · refine View.read_writes_cons_unit_of_not_mem _ _ inb _ _ _ rfl 1 ?_
        show R.val < o ∨ o + 128 ≤ R.val
        omega
    · refine View.read_writes_cons_unit_of_not_mem _ _ inb _ _ _ rfl 0 ?_
      show b'.val < b ∨ b + 1 ≤ b'.val
      omega

/-- One store of a head's contexts likewise. -/
theorem heldC_cons (r o p t : ℕ) (hr : r ≤ 128) (ho : o = 128 * t) (hp : p ≤ 192) (hpt : p = 64 * t) (h128 : r % 128 = 0)
    (inb : ∀ a, (![r, p] : Fin 2 → ℕ) a + S128x64.size a ≤ S256x256.size a) (q : FVec Ideal S512x256 .f32) (h : S512x256.Slices ![o, p] S128x64)
    (L : StoresC Ideal) (R e : Fin 256) :
    heldC (⟨Rect.unit ![r, p] S128x64.size inb, chunkC q o p h⟩ :: L) (ix2 R e)
      = if R.val / 128 = r / 128 ∧ e.val / 64 = t then q (ix2 ⟨e.val / 64 * 128 + R.val % 128, by omega⟩ e) else heldC L (ix2 R e) := by
  unfold heldC
  by_cases hit : R.val / 128 = r / 128 ∧ e.val / 64 = t
  · rw [if_pos hit]
    obtain ⟨h₁, h₂⟩ := hit
    rw [View.read_writes_cons_unit_of_mem _ _ inb _ _ _ (ix2 ⟨R.val % 128, by omega⟩ ⟨e.val % 64, by omega⟩) rfl, chunkC_apply _ _ _ _ (by omega) hp]
    · congr 2
      · apply Fin.ext
        show o + R.val % 128 = e.val / 64 * 128 + R.val % 128
        omega
      · apply Fin.ext
        show p + e.val % 64 = e.val
        omega
    · intro a
      fin_cases a
      · show R.val = r + R.val % 128; omega
      · show e.val = p + e.val % 64; omega
  · rw [if_neg hit]
    by_cases h₁ : R.val / 128 = r / 128
    · refine View.read_writes_cons_unit_of_not_mem _ _ inb _ _ _ rfl 1 ?_
      show e.val < p ∨ p + 64 ≤ e.val
      omega
    · refine View.read_writes_cons_unit_of_not_mem _ _ inb _ _ _ rfl 0 ?_
      show R.val < r ∨ r + 128 ≤ R.val
      omega

theorem heldA_laid (b r : ℕ) (hb : b < 2) (hr : r ≤ 128) (q : FVec Ideal S256x256 .bf16) (L : StoresA Ideal) (b' : Fin 2) (R : Fin 512) (e : Fin 256) :
    heldA (laidA b r hb hr q L) (ix3 b' R e)
      = if b'.val = b ∧ R.val / 128 = e.val / 64 then q (ix2 ⟨r + R.val % 128, by omega⟩ e) else heldA L (ix3 b' R e) := by
  unfold laidA
  rw [heldA_cons b r 384 192 3 hb hr (by decide) rfl rfl, heldA_cons b r 256 128 2 hb hr (by decide) rfl rfl,
    heldA_cons b r 128 64 1 hb hr (by decide) rfl rfl, heldA_cons b r 0 0 0 hb hr (by decide) rfl rfl]
  split_ifs <;> first | rfl | omega

theorem heldC_laid (r : ℕ) (hr : r ≤ 128) (h128 : r % 128 = 0) (q : FVec Ideal S512x256 .f32) (L : StoresC Ideal) (R e : Fin 256) :
    heldC (laidC r hr q L) (ix2 R e)
      = if R.val / 128 = r / 128 then q (ix2 ⟨e.val / 64 * 128 + R.val % 128, by omega⟩ e) else heldC L (ix2 R e) := by
  unfold laidC
  rw [heldC_cons r 384 192 3 hr rfl (by decide) rfl h128, heldC_cons r 256 128 2 hr rfl (by decide) rfl h128,
    heldC_cons r 128 64 1 hr rfl (by decide) rfl h128, heldC_cons r 0 0 0 hr rfl (by decide) rfl h128]
  split_ifs <;> first | rfl | omega

end Cert.KernelIdeal.Talk
-- ==== Proof.KernelIdeal.StepValue.lean ====
/-
  What one step adds to the result, read at an index: for each column of the step's four heads, the attention of the row times the output weight.
-/
module

public import proofs.«01_k».proof.Proof.KernelIdeal.Stored
public import proofs.«01_k».proof.Proof.KernelIdeal.Steps

@[expose] public section

noncomputable section

namespace Cert.KernelIdeal.Talk

open Cert.KernelIdeal.Gen Cert.Attention
open Idealize.ShloMosaic

/-- A sum over four heads' columns of which only one head's are not zero. -/
theorem sum_head (t : ℕ) (ht : t < 4) (f g : Fin 256 → EReal) :
    (∑ e : Fin 256, (if t = e.val / 64 then f e else 0) * g e) = ∑ d : Fin 64, f ⟨t * 64 + d.val, by omega⟩ * g ⟨t * 64 + d.val, by omega⟩ := by
  rw [← (finProdFinEquiv (m := 4) (n := 64)).sum_comp, Fintype.sum_prod_type, Finset.sum_eq_single (⟨t, ht⟩ : Fin 4)]
  · refine Finset.sum_congr rfl fun d _ => ?_
    have hv : (finProdFinEquiv (m := 4) (n := 64) (⟨t, ht⟩, d)).val = d.val + 64 * t := rfl
    have hi : (finProdFinEquiv (m := 4) (n := 64) (⟨t, ht⟩, d) : Fin 256) = ⟨t * 64 + d.val, by omega⟩ := Fin.ext (hv.trans (by show _ = t * 64 + d.val; omega))
    rw [if_pos (by omega), hi]
  · intro b _ hb
    refine Finset.sum_eq_zero fun d _ => ?_
    have hv : (finProdFinEquiv (m := 4) (n := 64) (b, d)).val = d.val + 64 * b.val := rfl
    have hne : b.val ≠ t := fun h => hb (Fin.ext h)
    rw [if_neg (by omega), zero_mul]
  · intro h
    exact absurd (Finset.mem_univ _) h

/-- Nothing but zeros away from the diagonal blocks. -/
def Diagonal (L : StoresA Ideal) : Prop := ∀ (b : Fin 2) (R : Fin 512) (e : Fin 256), R.val / 128 ≠ e.val / 64 → heldA L (ix3 b R e) = 0

theorem diagonal_cleared : Diagonal cleared := by
  intro b R e _
  unfold heldA cleared
  refine (congrFun (View.read_writes_full (Val := Elt Ideal) (s := S2x512x256) _ _ _ _ []) _).trans ?_
  pointwise

theorem Diagonal.laid {L : StoresA Ideal} (h : Diagonal L) (b r : ℕ) (hb : b < 2) (hr : r ≤ 128) (q : FVec Ideal S256x256 .bf16) : Diagonal (laidA b r hb hr q L) := by
  intro b' R e hne
  rw [heldA_laid, if_neg (fun hh => hne hh.2), h b' R e hne]

theorem diagonal_acc (x : FVec Ideal S256x512 .bf16) (w : ℕ → Vec Ideal S1x512x256 .bf16) : ∀ n, Diagonal (accA x w n)
  | 0 => diagonal_cleared
  | n + 1 => ((diagonal_acc x w n).laid 0 0 (by decide) (by decide) _).laid 1 128 (by decide) (by decide) _

/-- The plane read back after a batch's queries are laid is those queries on the diagonal. -/
theorem plane_laid {L : StoresA Ideal} (h : Diagonal L) (b r : ℕ) (hb : b < 2) (hr : r ≤ 128) (q : FVec Ideal S256x256 .bf16) (R : Fin 512) (e : Fin 256) :
    readA b hb (laidA b r hb hr q L) (ix3 0 R e) = if R.val / 128 = e.val / 64 then q (ix2 ⟨r + R.val % 128, by omega⟩ e) else 0 := by
  rw [readA_apply ⟨b, hb⟩, heldA_laid]
  by_cases hd : R.val / 128 = e.val / 64
  · rw [if_pos ⟨rfl, hd⟩, if_pos hd]
  · rw [if_neg (fun hh => hd hh.2), if_neg hd, h _ R e hd]

/-- A head's context, computed from the plane of its batch. -/
theorem context_plane {L : StoresA Ideal} (h : Diagonal L) (b r : ℕ) (hb : b < 2) (hr : r ≤ 128) (q : FVec Ideal S256x256 .bf16) (k v : Vec Ideal S1x128x256 .bf16)
    (i : Fin 128) (e : Fin 256) (R : Fin 512) (hR : R.val = e.val / 64 * 128 + i.val) :
    k0_pay19 neg k v (readA b hb (laidA b r hb hr q L)) (ix2 R e)
      = weighted (logits i (fun d => q (ix2 ⟨r + i.val, by omega⟩ ⟨e.val / 64 * 64 + d.val, by omega⟩)) (fun j d => k (ix3 0 j ⟨e.val / 64 * 64 + d.val, by omega⟩)))
          (fun j => v (ix3 0 j e)) := by
  have hdiv : R.val / 128 = e.val / 64 := by omega
  have hmod : R.val % 128 = i.val := by omega
  rw [context_apply]
  refine congrArg (weighted · _) (funext fun j => ?_)
  simp only [plane_laid h]
  rw [neg_apply, sum_head (R.val / 128) (by omega) (fun d => q (ix2 ⟨r + R.val % 128, by omega⟩ d)) (fun d => k (ix3 0 j d))]
  unfold logits
  simp only [hmod, hdiv]
  by_cases hs : sees i j = true
  · rw [if_pos hs, if_pos hs, add_zero]
  · rw [if_neg hs, if_neg hs, EReal.add_bot]

variable (x : FVec Ideal S256x512 .bf16) (w : Vec Ideal S1x512x256 .bf16) (u : Vec Ideal S1x256x512 .bf16) (k₀ v₀ k₁ v₁ : Vec Ideal S1x128x256 .bf16)

/-- One row of one batch after a step. -/
theorem stepV_apply {L : StoresA Ideal} (h : Diagonal L) (M : StoresC Ideal) (b : Fin 2) (i : Fin 128) (n : Fin 512) :
    stepV x w u k₀ v₀ k₁ v₁ L M (ix2 ⟨b.val * 128 + i.val, by omega⟩ n)
      = ∑ e : Fin 256, weighted (logits i (fun d => ∑ t : Fin 512, x (ix2 ⟨b.val * 128 + i.val, by omega⟩ t) * w (ix3 0 t ⟨e.val / 64 * 64 + d.val, by omega⟩))
          (fun j d => (if b = 0 then k₀ else k₁) (ix3 0 j ⟨e.val / 64 * 64 + d.val, by omega⟩))) (fun j => (if b = 0 then v₀ else v₁) (ix3 0 j e)) * u (ix3 0 e n) := by
  unfold stepV
  pointwise
  refine Finset.sum_congr rfl fun e _ => congrArg (· * _) ?_
  have hmod : (b.val * 128 + i.val) % 128 = i.val := by omega
  rw [readC_apply]
  unfold stepC
  rw [heldC_laid _ _ (by decide)]
  fin_cases b
  · rw [if_neg (by show ¬ (0 * 128 + i.val) / 128 = 1; omega), heldC_laid _ _ (by decide), if_pos (by show (0 * 128 + i.val) / 128 = 0; omega)]
    rw [context_plane h 0 0 (by decide) (by decide) _ k₀ v₀ i e _ (congrArg (e.val / 64 * 128 + ·) hmod)]
    simp only [queries_apply]
    rfl
  · rw [if_pos (by show (1 * 128 + i.val) / 128 = 1; omega)]
    unfold stepA
    rw [context_plane (h.laid 0 0 (by decide) (by decide) _) 1 128 (by decide) (by decide) _ k₁ v₁ i e _ (congrArg (e.val / 64 * 128 + ·) hmod)]
    simp only [queries_apply]
    rfl

end Cert.KernelIdeal.Talk
-- ==== Proof.KernelIdeal.BlockValue.lean ====
/-
  The block a device leaves, read at an index: the sum over the devices of what their four heads' columns add.
-/
module

public import proofs.«01_k».proof.Proof.KernelIdeal.StepValue

@[expose] public section

noncomputable section

namespace Cert.KernelIdeal.Talk

open Cert.KernelIdeal.Gen Cert.Attention
open Idealize.ShloMosaic

/-- The result after step `n` is the sum of what the steps so far add. -/
theorem total_apply (x : FVec Ideal S256x512 .bf16) (w : ℕ → Vec Ideal S1x512x256 .bf16) (u : ℕ → Vec Ideal S1x256x512 .bf16)
    (k₀ v₀ k₁ v₁ : ℕ → Vec Ideal S1x128x256 .bf16) (b : Fin 2) (i : Fin 128) (t : Fin 512) : ∀ n : ℕ,
    total x w u k₀ v₀ k₁ v₁ n (ix3 b i t) = ∑ s ∈ Finset.range (n + 1), added x w u k₀ v₀ k₁ v₁ s (ix2 ⟨b.val * 128 + i.val, by omega⟩ t)
  | 0 => by
    rw [Finset.sum_range_one]
    unfold total
    pointwise
  | n + 1 => by
    have ih := total_apply x w u k₀ v₀ k₁ v₁ b i t n
    rw [Finset.sum_range_succ, ← ih]
    show addf (total x w u k₀ v₀ k₁ v₁ n) (shapeCast S2x128x512 (added x w u k₀ v₀ k₁ v₁ (n + 1)) shapeCasts_S256x512_S2x128x512) (ix3 b i t) = _
    pointwise

theorem off1_eq : ∀ (c : Dev nD) (h : Fin 8), k0_off1 c (BitVec.ofNat 32 h.val) = ![0, 0, 256 * (from_ c h.val).val] := by decide +kernel
theorem off2_eq : ∀ (c : Dev nD) (h : Fin 8), k0_off2 c (BitVec.ofNat 32 h.val) = ![1, 0, 256 * (from_ c h.val).val] := by decide +kernel
theorem from_lt (c : Dev nD) (n : ℕ) : (from_ c n).val < 8 := (from_ c n).isLt

theorem kAt0_apply (c : Dev nD) (h : Fin 8) (f : Vec Ideal S2x128x2048 .bf16) (j : Fin 128) (e : Fin 256) :
    kAt0 c h f (ix3 0 j e) = f (ix3 0 j ⟨256 * (from_ c h.val).val + e.val, by have := from_lt c h.val; omega⟩) := by
  unfold kAt0
  rw [View.readAt_apply, View.read_whole]
  congr 1
  funext a
  apply Fin.ext
  have := off1_eq c h
  show k0_off1 c (BitVec.ofNat 32 h.val) a + 1 * _ = _
  rw [congrFun this a]
  fin_cases a <;> simp
theorem kAt1_apply (c : Dev nD) (h : Fin 8) (f : Vec Ideal S2x128x2048 .bf16) (j : Fin 128) (e : Fin 256) :
    kAt1 c h f (ix3 0 j e) = f (ix3 1 j ⟨256 * (from_ c h.val).val + e.val, by have := from_lt c h.val; omega⟩) := by
  unfold kAt1
  rw [View.readAt_apply, View.read_whole]
  congr 1
  funext a
  apply Fin.ext
  have := off2_eq c h
  show k0_off2 c (BitVec.ofNat 32 h.val) a + 1 * _ = _
  rw [congrFun this a]
  fin_cases a <;> simp

theorem vAt0_apply (c : Dev nD) (h : Fin 8) (f : Vec Ideal S2x128x2048 .bf16) (j : Fin 128) (e : Fin 256) :
    vAt0 c h f (ix3 0 j e) = f (ix3 0 j ⟨256 * (from_ c h.val).val + e.val, by have := from_lt c h.val; omega⟩) := kAt0_apply c h f j e
theorem vAt1_apply (c : Dev nD) (h : Fin 8) (f : Vec Ideal S2x128x2048 .bf16) (j : Fin 128) (e : Fin 256) :
    vAt1 c h f (ix3 0 j e) = f (ix3 1 j ⟨256 * (from_ c h.val).val + e.val, by have := from_lt c h.val; omega⟩) := kAt1_apply c h f j e

theorem rowsX_apply (x : Vec Ideal S2x128x512 .bf16) (b : Fin 2) (i : Fin 128) (t : Fin 512) :
    rowsX x (ix2 ⟨b.val * 128 + i.val, by omega⟩ t) = x (ix3 b i t) := by
  unfold rowsX
  pointwise
  rw [View.readAt_apply, View.read_whole]
  congr 1
  funext a
  apply Fin.ext
  fin_cases a <;> simp

theorem from_bijective : ∀ c : Dev nD, Function.Bijective (fun s : Fin 8 => (from_ c s.val : Fin 8)) := by decide +kernel

/-- What column `e` of device `d`'s heads adds. -/
def share (x : Vec Ideal S2x128x512 .bf16) (wq : Dev nD → BufWq Ideal) (kf vf : Vec Ideal S2x128x2048 .bf16) (wo : Dev nD → BufWo Ideal)
    (b : Fin 2) (i : Fin 128) (n : Fin 512) (d : Fin 8) (e : Fin 256) : EReal :=
  weighted (logits i (fun z => ∑ t : Fin 512, x (ix3 b i t) * wq d (ix2 t ⟨e.val / 64 * 64 + z.val, by omega⟩))
      (fun j z => kf (ix3 b j ⟨256 * d.val + (e.val / 64 * 64 + z.val), by omega⟩))) (fun j => vf (ix3 b j ⟨256 * d.val + e.val, by omega⟩)) * wo d (ix2 e n)

theorem out_apply (c : Dev nD) (x : Vec Ideal S2x128x512 .bf16) (wq : Dev nD → BufWq Ideal) (kf vf : Vec Ideal S2x128x2048 .bf16) (wo : Dev nD → BufWo Ideal)
    (b : Fin 2) (i : Fin 128) (n : Fin 512) :
    out c x wq kf vf wo (ix3 b i n) = ∑ d : Fin 8, ∑ e : Fin 256, share x wq kf vf wo b i n d e := by
  unfold out
  rw [total_apply, Finset.sum_range]
  refine Eq.trans ?_ ((from_bijective c).sum_comp fun d : Fin 8 => ∑ e : Fin 256, share x wq kf vf wo b i n d e)
  refine Finset.sum_congr rfl fun s _ => ?_
  unfold added
  rw [stepV_apply _ _ _ _ _ _ _ (diagonal_acc _ _ _)]
  refine Finset.sum_congr rfl fun e _ => ?_
  have hs : Fin.ofNat 8 s.val = s := Fin.ext (Nat.mod_eq_of_lt s.isLt)

  simp only [hs, rowsX_apply]
  rcases (by omega : b.val = 0 ∨ b.val = 1) with h | h
  · obtain rfl : b = 0 := Fin.ext h
    simp only [if_true, kAt0_apply, vAt0_apply]
    rfl
  · obtain rfl : b = 1 := Fin.ext h
    simp only [if_neg (by decide : ¬ (1 : Fin 2) = 0), kAt1_apply, vAt1_apply]
    rfl

end Cert.KernelIdeal.Talk
-- ==== Proof.KernelIdeal.Inputs.lean ====
/-
  What a device's block is computed from, in terms of the arrays at launch.
-/
module

public import proofs.«01_k».proof.Proof.KernelIdeal.BlockValue
public import proofs.«01_k».proof.Proof.KernelIdeal.Region
public import Idealize.ShloMosaic.Lib.StableHlo.ReadAt
public import Idealize.ShloMosaic.Lib.DynamicIndex

@[expose] public section

noncomputable section

namespace Cert.KernelIdeal.Talk

open Cert.KernelIdeal.Gen Cert.Attention
open Idealize.ShloMosaic Idealize.ShloMosaic.TcCoe

variable (m : (ℓ : Loc nD τ sig) → Buf (Elt Ideal) ℓ) (c : Dev nD)

theorem xIn_eq : xIn m c = m ((c.tc : Thread nD τ).loc main_arg0) := by
  refine Eq.trans (funext fun j => ?_) (V1_of m c main_arg0 (by decide))
  exact congrArg (V1 m c main_arg0) (funext fun a => Fin.ext (Pipeline.Window.rect_emb_val_of_index_zero (cfg0.win 0) t0_0 a (by fin_cases a <;> rfl) j))

/-- The index a device computes for its own batches. -/
theorem ownWord : ∀ c : Dev nD,
    (let w := IntOp.muli ((id (Host.remui (Host.divui (constantI S_ 32 c.word) (constantI S_ 32 1#32)) (constantI S_ 32 8#32)) : IVec S_ 32) (Shape.Idx.first h_S_)) 2#32
     Scalar.select (IntOp.cmpi .slt w 0#32) (IntOp.addi w 16#32) w) = BitVec.ofNat 32 (2 * c.val) := by decide +kernel

/-! Where a device's own two batches start, as its keys and its values are cut out. -/

theorem startK : (StableHlo.upto (hostOps0 c) (V0 m c) 16 (Proc.tc.devRef main_v8) : (⟨S_, .i32⟩ : BufTy).Contents (Elt Ideal)) (Shape.Idx.first h_S_)
    = BitVec.ofNat 32 (2 * c.val) := by
  after_reads_at
  exact ownWord c
theorem startK1 : (StableHlo.upto (hostOps0 c) (V0 m c) 16 (Proc.tc.devRef main_c_4) : (⟨S_, .i32⟩ : BufTy).Contents (Elt Ideal)) (Shape.Idx.first h_S_) = 0#32 := by
  after_reads_at
theorem startK2 : (StableHlo.upto (hostOps0 c) (V0 m c) 16 (Proc.tc.devRef main_c_5) : (⟨S_, .i32⟩ : BufTy).Contents (Elt Ideal)) (Shape.Idx.first h_S_) = 0#32 := by
  after_reads_at
theorem startK3 : (StableHlo.upto (hostOps0 c) (V0 m c) 16 (Proc.tc.devRef main_c_6) : (⟨S_, .i32⟩ : BufTy).Contents (Elt Ideal)) (Shape.Idx.first h_S_) = 0#32 := by
  after_reads_at
theorem startV : (StableHlo.upto (hostOps0 c) (V0 m c) 27 (Proc.tc.devRef main_v13) : (⟨S_, .i32⟩ : BufTy).Contents (Elt Ideal)) (Shape.Idx.first h_S_)
    = BitVec.ofNat 32 (2 * c.val) := by
  after_reads_at
  exact ownWord c
theorem startV1 : (StableHlo.upto (hostOps0 c) (V0 m c) 27 (Proc.tc.devRef main_c_10) : (⟨S_, .i32⟩ : BufTy).Contents (Elt Ideal)) (Shape.Idx.first h_S_) = 0#32 := by
  after_reads_at
theorem startV2 : (StableHlo.upto (hostOps0 c) (V0 m c) 27 (Proc.tc.devRef main_c_11) : (⟨S_, .i32⟩ : BufTy).Contents (Elt Ideal)) (Shape.Idx.first h_S_) = 0#32 := by
  after_reads_at
theorem startV3 : (StableHlo.upto (hostOps0 c) (V0 m c) 27 (Proc.tc.devRef main_c_12) : (⟨S_, .i32⟩ : BufTy).Contents (Elt Ideal)) (Shape.Idx.first h_S_) = 0#32 := by
  after_reads_at

theorem word (n : ℕ) (hn : n < 16) : (BitVec.ofNat 32 n).toInt = n := toInt_ofNat_of_lt (by omega)

theorem ix4_congr {n₀ n₁ n₂ n₃ : ℕ} {a a' : Fin n₀} {b b' : Fin n₁} {d d' : Fin n₂} {e e' : Fin n₃} (h0 : a.val = a'.val) (h1 : b.val = b'.val) (h2 : d.val = d'.val)
    (h3 : e.val = e'.val) : ix4 a b d e = ix4 a' b' d' e' := by
  rw [Fin.ext h0, Fin.ext h1, Fin.ext h2, Fin.ext h3]

/-- Where column `e` of staged row `(b, j)` lies in an array of all batches. -/
def ownAt (b : Fin 2) (j : Fin 128) (e : Fin 2048) : Shape.Idx S16x128x32x64 :=
  ix4 ⟨2 * c.val + b.val, by have : c.val < 8 := c.isLt; omega⟩ j ⟨e.val / 64, by omega⟩ ⟨e.val % 64, by omega⟩

/-- A start of `(2c, 0, 0, 0)` is not clamped. -/
theorem starts_at {ht : S2x128x32x64.rank = S16x128x32x64.rank} (start : Fin 4 → ℤ) (h0 : start 0 = ((2 * c.val : ℕ) : ℤ)) (h1 : start 1 = 0) (h2 : start 2 = 0) (h3 : start 3 = 0)
    (b : Fin 2) (j : Fin 128) (e : Fin 2048) {p0 p1 p2 p3} :
    (ix4 ⟨Host.clampedStart S16x128x32x64 S2x128x32x64 ht start 0 + b.val, p0⟩ ⟨Host.clampedStart S16x128x32x64 S2x128x32x64 ht start 1 + j.val, p1⟩
      ⟨Host.clampedStart S16x128x32x64 S2x128x32x64 ht start 2 + e.val / 64, p2⟩ ⟨Host.clampedStart S16x128x32x64 S2x128x32x64 ht start 3 + e.val % 64, p3⟩ : Shape.Idx S16x128x32x64)
      = ownAt c b j e := by
  have hc : c.val < 8 := c.isLt
  refine ix4_congr (congrArg (fun n : ℕ => n + b.val) (Host.clampedStart_of_le _ _ _ _ h0 (by show 2 * c.val + 2 ≤ 16; omega))) ?_ ?_ ?_
  · exact (congrArg (fun n : ℕ => n + j.val) (Host.clampedStart_of_le _ _ _ 0 h1 (by exact le_refl 128))).trans (Nat.zero_add _)
  · exact (congrArg (fun n : ℕ => n + e.val / 64) (Host.clampedStart_of_le _ _ _ 0 h2 (by exact le_refl 32))).trans (Nat.zero_add _)
  · exact (congrArg (fun n : ℕ => n + e.val % 64) (Host.clampedStart_of_le _ _ _ 0 h3 (by exact le_refl 64))).trans (Nat.zero_add _)

/-- The keys a device stages are those of its own two batches, their heads side by side. -/
theorem sliceK (b : Fin 2) (j : Fin 128) (e : Fin 2048) :
    V1 m c main_v15 (ix3 b j e) = m ((c.tc : Thread nD τ).loc main_arg2) (ownAt c b j e) := by
  unfold V1
  after_reads_at
  have h0 := startK m c
  have h1 := startK1 m c
  have h2 := startK2 m c
  have h3 := startK3 m c
  generalize StableHlo.upto (hostOps0 c) (V0 m c) 16 = W at h0 h1 h2 h3 ⊢
  have hc : c.val < 8 := c.isLt
  refine congrArg (m ((c.tc : Thread nD τ).loc main_arg2)) (starts_at c _ ?_ ?_ ?_ ?_ b j e)
  · rw [← word (2 * c.val) (by omega), ← h0]
    rfl
  · exact congrArg BitVec.toInt h1
  · exact congrArg BitVec.toInt h2
  · exact congrArg BitVec.toInt h3

/-- The values a device stages are those of its own two batches, their heads side by side. -/
theorem sliceV (b : Fin 2) (j : Fin 128) (e : Fin 2048) :
    V1 m c main_v16 (ix3 b j e) = m ((c.tc : Thread nD τ).loc main_arg3) (ownAt c b j e) := by
  unfold V1
  after_reads_at
  have h0 := startV m c
  have h1 := startV1 m c
  have h2 := startV2 m c
  have h3 := startV3 m c
  generalize StableHlo.upto (hostOps0 c) (V0 m c) 27 = W at h0 h1 h2 h3 ⊢
  have hc : c.val < 8 := c.isLt
  refine congrArg (m ((c.tc : Thread nD τ).loc main_arg3)) (starts_at c _ ?_ ?_ ?_ ?_ b j e)
  · rw [← word (2 * c.val) (by omega), ← h0]
    rfl
  · exact congrArg BitVec.toInt h1
  · exact congrArg BitVec.toInt h2
  · exact congrArg BitVec.toInt h3

theorem wqIn_eq : wqIn m c = m ((c.tc : Thread nD τ).loc main_arg1) := by
  refine Eq.trans (funext fun j => ?_) (V1_of m c main_arg1 (by decide))
  exact congrArg (V1 m c main_arg1) (funext fun a => Fin.ext (Pipeline.Window.rect_emb_val_of_index_zero (cfg0.win 1) t0_0 a (by fin_cases a <;> rfl) j))

theorem woIn_eq : woIn m c = m ((c.tc : Thread nD τ).loc main_arg4) := by
  refine Eq.trans (funext fun j => ?_) (V1_of m c main_arg4 (by decide))
  exact congrArg (V1 m c main_arg4) (funext fun a => Fin.ext (Pipeline.Window.rect_emb_val_of_index_zero (cfg0.win 4) t0_0 a (by fin_cases a <;> rfl) j))

theorem kIn_apply (b : Fin 2) (j : Fin 128) (e : Fin 2048) : kIn m c (ix3 b j e) = m ((c.tc : Thread nD τ).loc main_arg2) (ownAt c b j e) := by
  refine Eq.trans ?_ (sliceK m c b j e)
  exact congrArg (V1 m c main_v15) (funext fun a => Fin.ext (Pipeline.Window.rect_emb_val_of_index_zero (cfg0.win 2) t0_0 a (by fin_cases a <;> rfl) (ix3 b j e)))

theorem vIn_apply (b : Fin 2) (j : Fin 128) (e : Fin 2048) : vIn m c (ix3 b j e) = m ((c.tc : Thread nD τ).loc main_arg3) (ownAt c b j e) := by
  refine Eq.trans ?_ (sliceV m c b j e)
  exact congrArg (V1 m c main_v16) (funext fun a => Fin.ext (Pipeline.Window.rect_emb_val_of_index_zero (cfg0.win 3) t0_0 a (by fin_cases a <;> rfl) (ix3 b j e)))

end Cert.KernelIdeal.Talk
-- ==== Proof.ReferenceIdeal.Value.lean ====
/-
  What the reference computes, cut in named parts, and each part read at an index.
-/
module

public import proofs.«01_k».proof.Proof.Gen.ReferenceIdeal.Run
public import proofs.«01_k».proof.Proof.Attention

@[expose] public section

noncomputable section

namespace Cert.ReferenceIdeal.Value

open Cert.ReferenceIdeal.Gen Cert.Attention
open Idealize.ShloMosaic Idealize.ShloMosaic.TcCoe

/-- The block of 64 tokens each token is in. -/
def blockOf : IVec S128 32 :=
  (select (andi (cmpi .ne (signi (iotaInDim S128 32 0)) (broadcastInDim S128 ![] bcast_S_S128 (signi (id (constantI S_ 32 64#32))))) (cmpi .ne (Host.remsi (iotaInDim S128 32 0) (broadcastInDim S128 ![] bcast_S_S128 (id (constantI S_ 32 64#32)))) (broadcastInDim S128 ![] bcast_S_S128 (constantI S_ 32 0#32)))) (subi (Host.divsi (iotaInDim S128 32 0) (broadcastInDim S128 ![] bcast_S_S128 (id (constantI S_ 32 64#32)))) (broadcastInDim S128 ![] bcast_S_S128 (constantI S_ 32 1#32))) (Host.divsi (iotaInDim S128 32 0) (broadcastInDim S128 ![] bcast_S_S128 (id (constantI S_ 32 64#32)))))
def blockRow : IVec S128x128 32 := (broadcastInDim S128x128 ![0, 1] bcast_S128x1_S128x128_0_1 (broadcastInDim S128x1 ![0] bcast_S128_S128x1_0 blockOf))
def blockCol : IVec S128x128 32 := (broadcastInDim S128x128 ![0, 1] bcast_S1x128_S128x128_0_1 (broadcastInDim S1x128 ![1] bcast_S128_S1x128_1 blockOf))
def divisor : IVec S_ 32 := (select (cmpi .eq (id (constantI S_ 32 3#32)) (constantI S_ 32 0#32)) (constantI S_ 32 1#32) (id (constantI S_ 32 3#32)))
def blockRem : IVec S128x128 32 := (Host.remsi (addi blockRow blockCol) (broadcastInDim S128x128 ![] bcast_S_S128x128 divisor))
/-- Which queries see which keys. -/
def mask : IVec S128x128 1 :=
  (ori (ori (cmpi .eq blockRow blockCol) (broadcastInDim S128x128 ![0, 1] bcast_S1x128_S128x128_0_1 (cmpi .eq (broadcastInDim S1x128 ![1] bcast_S128_S1x128_1 blockOf) (broadcastInDim S1x128 ![] bcast_S_S1x128 (constantI S_ 32 0#32))))) (cmpi .eq (select (andi (cmpi .ne (cmpi .slt blockRem (broadcastInDim S128x128 ![] bcast_S_S128x128 (constantI S_ 32 0#32))) (broadcastInDim S128x128 ![] bcast_S_S128x128 (cmpi .slt divisor (constantI S_ 32 0#32)))) (cmpi .ne blockRem (broadcastInDim S128x128 ![] bcast_S_S128x128 (constantI S_ 32 0#32)))) (addi blockRem (broadcastInDim S128x128 ![] bcast_S_S128x128 divisor)) blockRem) (broadcastInDim S128x128 ![] bcast_S_S128x128 (constantI S_ 32 0#32))))
/-- Whether a query sees any key. -/
def rowKept : IVec S1x1x128x1 1 := (broadcastInDim S1x1x128x1 ![2] bcast_S128_S1x1x128x1_2 (Host.reduce IntOp.ori mask (constantI S_ 1 0#1) reducesTo_S128x128_S128_d1 h_S_))

def queries (x : FVec Ideal S16x128x512 .bf16) (wq : FVec Ideal S512x2048 .bf16) : FVec Ideal S16x128x32x64 .bf16 :=
  (shapeCast S16x128x32x64 (truncf .bf16 (Host.dotGeneral dot_S16x128x512_S512x2048_S16x128x2048_2_0_01_1_n_n none x wq) bitsLt_bf16_f32) shapeCasts_S16x128x2048_S16x128x32x64)
/-- The scaled scores, minus infinity where the mask hides the key. -/
def logit (x : FVec Ideal S16x128x512 .bf16) (wq : FVec Ideal S512x2048 .bf16) (k : FVec Ideal S16x128x32x64 .bf16) : FVec Ideal S16x32x128x128 .f32 :=
  (select (broadcastInDim S16x32x128x128 ![0, 1, 2, 3] bcast_S1x1x128x128_S16x32x128x128_0_1_2_3 (broadcastInDim S1x1x128x128 ![2, 3] bcast_S128x128_S1x1x128x128_2_3 mask)) (mulf (extf .f32 (truncf .bf16 (Host.dotGeneral dot_S16x128x32x64_S16x128x32x64_S16x32x128x128_3_3_1_1_02_02 none (queries x wq) k) bitsLt_bf16_f32) bitsLt_bf16_f32) (broadcastInDim S16x32x128x128 ![] bcast_S_S16x32x128x128 (constant S_ .f32 0x3E000000#32))) (broadcastInDim S16x32x128x128 ![] bcast_S_S16x32x128x128 (id (constant S_ .f32 0xFF800000#32))))
def exps (s : FVec Ideal S16x32x128x128 .f32) : FVec Ideal S16x32x128x128 .f32 :=
  (Host.exp (subf s (broadcastInDim S16x32x128x128 ![0, 1, 2, 3] bcast_S16x32x128x1_S16x32x128x128_0_1_2_3 (broadcastInDim S16x32x128x1 ![0, 1, 2] bcast_S16x32x128_S16x32x128x1_0_1_2 (Host.reduce FloatOps.maximumf s (constant S_ .f32 0xFF800000#32) reducesTo_S16x32x128x128_S16x32x128_d3 h_S_)))))
/-- The softmax of the logits over the keys. -/
def weights (s : FVec Ideal S16x32x128x128 .f32) : FVec Ideal S16x32x128x128 .f32 :=
  (select (broadcastInDim S16x32x128x128 ![0, 1, 2, 3] bcast_S1x1x128x1_S16x32x128x128_0_1_2_3 rowKept) (Host.divf (exps s) (broadcastInDim S16x32x128x128 ![0, 1, 2, 3] bcast_S16x32x128x1_S16x32x128x128_0_1_2_3 (select (broadcastInDim S16x32x128x1 ![0, 1, 2, 3] bcast_S1x1x128x1_S16x32x128x1_0_1_2_3 rowKept) (broadcastInDim S16x32x128x1 ![0, 1, 2] bcast_S16x32x128_S16x32x128x1_0_1_2 (Host.reduceAdd (exps s) (constant S_ .f32 0x00000000#32) reducesTo_S16x32x128x128_S16x32x128_d3 h_S_)) (broadcastInDim S16x32x128x1 ![] bcast_S_S16x32x128x1 (id (constant S_ .f32 0x3F800000#32)))))) (broadcastInDim S16x32x128x128 ![] bcast_S_S16x32x128x128 (id (constant S_ .f32 0x00000000#32))))
/-- The reference's result. -/
def result (x : FVec Ideal S16x128x512 .bf16) (wq : FVec Ideal S512x2048 .bf16) (k v : FVec Ideal S16x128x32x64 .bf16)
    (wo : FVec Ideal S2048x512 .bf16) : FVec Ideal S16x128x512 .f32 :=
  Host.dotGeneral dot_S16x128x2048_S2048x512_S16x128x512_2_0_01_1_n_n none (shapeCast S16x128x2048 (transpose S16x128x32x64 [0, 3, 1, 2] (Host.dotGeneral dot_S16x128x32x64_S16x32x128x128_S16x32x64x128_1_3_3_2_02_01 none (extf .f32 v bitsLt_bf16_f32) (weights (logit x wq k))) transposes_S16x32x64x128_S16x128x32x64_0_3_1_2) shapeCasts_S16x128x32x64_S16x128x2048) (extf .f32 wo bitsLt_bf16_f32)

theorem res_eq (m : (ℓ : Loc nD τ sig) → Buf (Elt Ideal) ℓ) (c : Dev nD) :
    res_main_v49 m c = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

theorem blockOf_apply (i : Fin 128) : blockOf (ix1 i) = if i.val < 64 then 0#32 else 1#32 := by
  pointwise [blockOf]
  revert i
  decide +kernel

theorem mask_apply (i j : Fin 128) : mask (ix2 i j) = if sees i j then 1#1 else 0#1 := by
  have hi := blockOf_apply i
  have hj := blockOf_apply j
  pointwise [mask, blockRem, blockRow, blockCol, divisor]
  rw [hi, hj]
  by_cases h₁ : i.val < 64 <;> by_cases h₂ : j.val < 64 <;> simp [sees, h₁, h₂] <;> decide

theorem rowKept_apply (i : Fin 128) : rowKept (ix4 0 0 i 0) = 1#1 := by
  have hm : ∀ j, mask (ix2 i j) = if sees i j then 1#1 else 0#1 := mask_apply i
  pointwise [rowKept]
  rw [← Finset.insert_erase (Finset.mem_univ (0 : Fin 128)), Finset.fold_insert (Finset.notMem_erase _ _), hm]
  generalize Finset.fold IntOp.ori _ _ _ = w
  have h0 : sees i 0 = true := by simp [sees]
  rw [if_pos h0]
  exact (by decide : ∀ w : BitVec 1, IntOp.ori 1#1 w = 1#1) w

theorem queries_apply (x : FVec Ideal S16x128x512 .bf16) (wq : FVec Ideal S512x2048 .bf16) (b : Fin 16) (i : Fin 128) (h : Fin 32) (d : Fin 64) :
    queries x wq (ix4 b i h d) = ∑ e : Fin 512, x (ix3 b i e) * wq (ix2 e ⟨h.val * 64 + d.val, by omega⟩) := by
  pointwise [queries]

theorem logit_apply (x : FVec Ideal S16x128x512 .bf16) (wq : FVec Ideal S512x2048 .bf16) (k : FVec Ideal S16x128x32x64 .bf16)
    (b : Fin 16) (h : Fin 32) (i j : Fin 128) :
    logit x wq k (ix4 b h i j) = logits i (fun d => queries x wq (ix4 b i h d)) (fun j d => k (ix4 b j h d)) j := by
  have hm := mask_apply i j
  pointwise [logit]
  rw [hm]
  have low : (id (constant (F := Ideal) S_ .f32 4286578688#32) ix0 : EReal) = ⊥ := lowest_eq
  rw [low]
  unfold logits
  by_cases h : sees i j = true
  · rw [if_pos h, if_pos h]; rfl
  · rw [if_neg h, if_neg h]; rfl

theorem weights_apply (s : FVec Ideal S16x32x128x128 .f32) (b : Fin 16) (h : Fin 32) (i j : Fin 128) :
    weights s (ix4 b h i j) = Ideal.div (Ideal.exp (s (ix4 b h i j) - Finset.univ.fold max lowest fun j => s (ix4 b h i j)))
      (∑ j' : Fin 128, Ideal.exp (s (ix4 b h i j') - Finset.univ.fold max lowest fun j => s (ix4 b h i j))) := by
  pointwise [weights, exps]
  rw [rowKept_apply i]
  rfl

/-- The reference's result: for every column of the heads' contexts laid side by side, that context times the output weight. -/
theorem result_apply (x : FVec Ideal S16x128x512 .bf16) (wq : FVec Ideal S512x2048 .bf16) (k v : FVec Ideal S16x128x32x64 .bf16)
    (wo : FVec Ideal S2048x512 .bf16) (b : Fin 16) (i : Fin 128) (n : Fin 512) :
    result x wq k v wo (ix3 b i n) = ∑ e : Fin 2048,
      weighted (logits i (fun d => ∑ t : Fin 512, x (ix3 b i t) * wq (ix2 t ⟨e.val / 64 * 64 + d.val, by omega⟩))
        (fun j d => k (ix4 b j ⟨e.val / 64, by omega⟩ d))) (fun j => v (ix4 b j ⟨e.val / 64, by omega⟩ ⟨e.val % 64, by omega⟩)) * wo (ix2 e n) := by
  pointwise [result]
  refine Finset.sum_congr rfl fun e _ => congrArg (· * _) (Finset.sum_congr rfl fun j _ => ?_)
  rw [weights_apply, mul_comm]
  simp only [logit_apply, queries_apply]

end Cert.ReferenceIdeal.Value
-- ==== Proof.Equation.lean ====
/-
  The kernel's block is the reference's: the sum over the devices of their own columns is the sum over all columns.
-/
module

public import proofs.«01_k».proof.Proof.KernelIdeal.Inputs
public import proofs.«01_k».proof.Proof.ReferenceIdeal.Value
public import Idealize.ShloMosaic.Lib.Layout
public import Idealize.ShloMosaic.Lib.Pipeline.ValueKit

@[expose] public section

noncomputable section

namespace Cert.Equation

open Cert.Attention
open Idealize.ShloMosaic Idealize.ShloMosaic.TcCoe

/-- A sum over all columns, device by device. -/
theorem sum_devices (G : Fin 2048 → EReal) : ∑ e : Fin 2048, G e = ∑ d : Fin 8, ∑ e : Fin 256, G ⟨256 * d.val + e.val, by omega⟩ := by
  rw [← (finProdFinEquiv (m := 8) (n := 256)).sum_comp, Fintype.sum_prod_type]
  refine Finset.sum_congr rfl fun d _ => Finset.sum_congr rfl fun e _ => congrArg G (Fin.ext ?_)
  exact Nat.add_comm _ _

/-! An array cut along an axis, read at an index. -/

theorem rows_apply {α : Type} (c : Fin 8) (v : Shape.Idx ⟨3, ![16, 128, 512]⟩ → α) (h) (b : Fin 2) (i : Fin 128) (t : Fin 512) :
    Layout.block ⟨3, ![2, 128, 512]⟩ ⟨3, ![16, 128, 512]⟩ 0 8 c v h (ix3 b i t) = v (ix3 ⟨2 * c.val + b.val, by omega⟩ i t) := by
  refine congrArg v (funext fun a => Fin.ext ?_)
  rw [Layout.Tiles.idx_val]
  fin_cases a <;> simp [Nat.mul_comm]

theorem columns_apply {α : Type} (c : Fin 8) (v : Shape.Idx ⟨2, ![512, 2048]⟩ → α) (h) (t : Fin 512) (e : Fin 256) :
    Layout.block ⟨2, ![512, 256]⟩ ⟨2, ![512, 2048]⟩ 1 8 c v h (ix2 t e) = v (ix2 t ⟨256 * c.val + e.val, by omega⟩) := by
  refine congrArg v (funext fun a => Fin.ext ?_)
  rw [Layout.Tiles.idx_val]
  fin_cases a <;> simp [Nat.mul_comm]

theorem outputs_apply {α : Type} (c : Fin 8) (v : Shape.Idx ⟨2, ![2048, 512]⟩ → α) (h) (e : Fin 256) (n : Fin 512) :
    Layout.block ⟨2, ![256, 512]⟩ ⟨2, ![2048, 512]⟩ 0 8 c v h (ix2 e n) = v (ix2 ⟨256 * c.val + e.val, by omega⟩ n) := by
  refine congrArg v (funext fun a => Fin.ext ?_)
  rw [Layout.Tiles.idx_val]
  fin_cases a <;> simp [Nat.mul_comm]

open Cert.KernelIdeal in
/-- What a device leaves is its block of what the reference computes from the whole arrays. -/
theorem block_eq (m : (ℓ : Loc nD τ sig) → Buf (Elt Ideal) ℓ) (x : FVec Ideal ⟨3, ![16, 128, 512]⟩ .bf16) (wq : FVec Ideal ⟨2, ![512, 2048]⟩ .bf16)
    (k v : FVec Ideal ⟨4, ![16, 128, 32, 64]⟩ .bf16) (wo : FVec Ideal ⟨2, ![2048, 512]⟩ .bf16)
    (h0 : ∀ c : Dev nD, m ((c.tc : Thread nD τ).loc main_arg0) = Layout.block ⟨3, ![2, 128, 512]⟩ ⟨3, ![16, 128, 512]⟩ 0 8 c x)
    (h1 : ∀ c : Dev nD, m ((c.tc : Thread nD τ).loc main_arg1) = Layout.block ⟨2, ![512, 256]⟩ ⟨2, ![512, 2048]⟩ 1 8 c wq)
    (h2 : ∀ c : Dev nD, m ((c.tc : Thread nD τ).loc main_arg2) = k)
    (h3 : ∀ c : Dev nD, m ((c.tc : Thread nD τ).loc main_arg3) = v)
    (h4 : ∀ c : Dev nD, m ((c.tc : Thread nD τ).loc main_arg4) = Layout.block ⟨2, ![256, 512]⟩ ⟨2, ![2048, 512]⟩ 0 8 c wo) (c : Dev nD) :
    Talk.blockOut m c = Layout.block ⟨3, ![2, 128, 512]⟩ ⟨3, ![16, 128, 512]⟩ 0 8 c (Cert.ReferenceIdeal.Value.result x wq k v wo) := by
  funext z
  obtain ⟨b, i, n, rfl⟩ : ∃ b i n, z = ix3 b i n := ⟨z 0, z 1, z 2, (ix3_eta z).symm⟩
  refine Eq.trans ?_ (rows_apply c _ _ b i n).symm
  rw [Cert.ReferenceIdeal.Value.result_apply, sum_devices]
  unfold Talk.blockOut
  rw [Talk.out_apply]
  refine Finset.sum_congr rfl fun d _ => Finset.sum_congr rfl fun e _ => ?_
  unfold Talk.share
  refine congr (congrArg HMul.hMul (congr (congrArg weighted (congr (congrArg (logits i) (funext fun z => Finset.sum_congr rfl fun t _ => ?_)) (funext fun j => funext fun z => ?_))) (funext fun j => ?_))) ?_
  · refine congr (congrArg HMul.hMul ?_) ?_
    · rw [Talk.xIn_eq, h0, rows_apply]
    · rw [Talk.wqIn_eq, h1, columns_apply]
      exact congrArg (fun y => wq (ix2 t y)) (Fin.ext (by show 256 * d.val + (e.val / 64 * 64 + z.val) = (256 * d.val + e.val) / 64 * 64 + z.val; omega))
  · rw [Talk.kIn_apply, h2]
    exact congrArg k (Talk.ix4_congr rfl rfl (by show (256 * d.val + (e.val / 64 * 64 + z.val)) / 64 = (256 * d.val + e.val) / 64; omega)
      (by show (256 * d.val + (e.val / 64 * 64 + z.val)) % 64 = z.val; omega))
  · rw [Talk.vIn_apply, h3]
    exact congrArg v (Talk.ix4_congr rfl rfl rfl rfl)
  · rw [Talk.woIn_eq, h4, outputs_apply]

open Cert.KernelIdeal in
/-- What a device's result buffer holds at the end. -/
theorem end_eq (m : (ℓ : Loc nD τ sig) → Buf (Elt Ideal) ℓ) (c : Dev nD) :
    Talk.Vend m c (Proc.devRef .tc main_v17) = Talk.blockOut m c := by
  refine (Function.update_self (Proc.devRef .tc main_v17 : DevRef τ sig) _ _).trans ?_
  refine (Talk.dat0 m c).arrAt_eq_of_after_last 5 Cert.KernelIdeal.Gen.t0_0 (by decide +kernel) _ fun j => ?_
  blk_simp
  rfl

end Cert.Equation
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Kernel.Main
public import proofs.«01_k».proof.Proof.KernelIdeal.Main
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel as printed: its run ends, with the arguments as launched and every counter at zero. -/
theorem frame_kernel : Cert.quiescent_Kernel (hKernel := Cert.Kernel.Gen.facts) := fun m g _ => Cert.Kernel.Talk.run_main m g

/-- The same of its idealization. -/
theorem frame_ideal : Cert.quiescent_KernelIdeal (hKernelIdeal := Cert.KernelIdeal.Gen.facts) := fun m g _ =>
  (θ_run _ _ _).mono (fun _ h => ⟨fun c => (h.1 c).2, h.2⟩) (Cert.KernelIdeal.Talk.run_main m g)

/-- The reference runs host operations only, and has no semaphore. -/
theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

/-- The mask's constant is the one the idealization names. -/
theorem preserves_mask : Cert.preserves_Kernel_KernelIdeal := IdealRules.named_const.statement _ _ _ _ _ rfl

/-- Every device's result is its block of the reference's. -/
theorem algebraic : Cert.algebraic_KernelIdeal_ReferenceIdeal (hKernelIdeal := Cert.KernelIdeal.Gen.facts) (hReferenceIdeal := Cert.ReferenceIdeal.Gen.facts) := by
  intro m g m' g' _ h
  refine ⟨Cert.ReferenceIdeal.Value.res_main_v49 m' 0, (θ_run _ _ _).mono (fun _ hr c => ⟨?_, (hr.1 c).2⟩) (Cert.KernelIdeal.Talk.run_main m g),
    (θ_run _ _ _).mono (fun _ hr => hr 0) (Cert.ReferenceIdeal.Value.run m' g')⟩
  rw [(hr.1 c).1, Cert.Equation.end_eq, Cert.ReferenceIdeal.Value.res_eq]
  exact Cert.Equation.block_eq m _ _ _ _ _ (fun c => (h c).1) (fun c => (h c).2.1) (fun c => (h c).2.2.1) (fun c => (h c).2.2.2.1) (fun c => (h c).2.2.2.2) c

theorem claim : Cert.Claim :=
  ⟨Cert.Kernel.Gen.facts, Cert.KernelIdeal.Gen.facts, Cert.ReferenceIdeal.Gen.facts, frame_kernel, frame_ideal, frame_reference, preserves_mask, algebraic⟩

end Cert.Proof

end
